-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "bn" .f32 0x3F80002A#32 ((Real.sqrt (2097173 / 2097152) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v219) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024x80 : Shape := ⟨3, ![32, 1024, 80]⟩
abbrev S32x1x3x3 : Shape := ⟨4, ![32, 1, 3, 3]⟩
abbrev S32x32x3x3 : Shape := ⟨4, ![32, 32, 3, 3]⟩
abbrev S64x32x3x3 : Shape := ⟨4, ![64, 32, 3, 3]⟩
abbrev S32 : Shape := ⟨1, ![32]⟩
abbrev S64 : Shape := ⟨1, ![64]⟩
abbrev S_ : Shape := ⟨0, ![]⟩
abbrev S32x1026x82 : Shape := ⟨3, ![32, 1026, 82]⟩
abbrev S32x513x82 : Shape := ⟨3, ![32, 513, 82]⟩
abbrev S3x3x1x32 : Shape := ⟨4, ![3, 3, 1, 32]⟩
abbrev S3x82x42 : Shape := ⟨3, ![3, 82, 42]⟩
abbrev S1x3x1x32 : Shape := ⟨4, ![1, 3, 1, 32]⟩
abbrev S3x1x32 : Shape := ⟨3, ![3, 1, 32]⟩
abbrev S1x32x82x42 : Shape := ⟨4, ![1, 32, 82, 42]⟩
abbrev S82x1x42x32 : Shape := ⟨4, ![82, 1, 42, 32]⟩
abbrev S82x1344 : Shape := ⟨2, ![82, 1344]⟩
abbrev S1x82x1344 : Shape := ⟨3, ![1, 82, 1344]⟩
abbrev S3x82x1344 : Shape := ⟨3, ![3, 82, 1344]⟩
abbrev S42x32 : Shape := ⟨2, ![42, 32]⟩
abbrev S1 : Shape := ⟨1, ![1]⟩
abbrev S40x32 : Shape := ⟨2, ![40, 32]⟩
abbrev S1344 : Shape := ⟨1, ![1344]⟩
abbrev S1x1344 : Shape := ⟨2, ![1, 1344]⟩
abbrev S256x256 : Shape := ⟨2, ![256, 256]⟩
abbrev S32x257x1344 : Shape := ⟨3, ![32, 257, 1344]⟩
abbrev S1x513x82 : Shape := ⟨3, ![1, 513, 82]⟩
abbrev S1x257x1344 : Shape := ⟨3, ![1, 257, 1344]⟩
abbrev S1x256x82 : Shape := ⟨3, ![1, 256, 82]⟩
abbrev S256x82 : Shape := ⟨2, ![256, 82]⟩
abbrev S256x1344 : Shape := ⟨2, ![256, 1344]⟩
abbrev S128x1344 : Shape := ⟨2, ![128, 1344]⟩
abbrev S257x1344 : Shape := ⟨2, ![257, 1344]⟩
abbrev S3x3x32x32 : Shape := ⟨4, ![3, 3, 32, 32]⟩
abbrev S3x42x22 : Shape := ⟨3, ![3, 42, 22]⟩
abbrev S1x3x32x32 : Shape := ⟨4, ![1, 3, 32, 32]⟩
abbrev S3x32x32 : Shape := ⟨3, ![3, 32, 32]⟩
abbrev S32x32x42x22 : Shape := ⟨4, ![32, 32, 42, 22]⟩
abbrev S42x32x22x32 : Shape := ⟨4, ![42, 32, 22, 32]⟩
abbrev S1344x704 : Shape := ⟨2, ![1344, 704]⟩
abbrev S1x1344x704 : Shape := ⟨3, ![1, 1344, 704]⟩
abbrev S3x1344x704 : Shape := ⟨3, ![3, 1344, 704]⟩
abbrev S22x32 : Shape := ⟨2, ![22, 32]⟩
abbrev S20x32 : Shape := ⟨2, ![20, 32]⟩
abbrev S704 : Shape := ⟨1, ![704]⟩
abbrev S1x704 : Shape := ⟨2, ![1, 704]⟩
abbrev S3x512x256 : Shape := ⟨3, ![3, 512, 256]⟩
abbrev S3x640x256 : Shape := ⟨3, ![3, 640, 256]⟩
abbrev S3x448x192 : Shape := ⟨3, ![3, 448, 192]⟩
abbrev S32x129x704 : Shape := ⟨3, ![32, 129, 704]⟩
abbrev S1x129x704 : Shape := ⟨3, ![1, 129, 704]⟩
abbrev S1x256x512 : Shape := ⟨3, ![1, 256, 512]⟩
abbrev S256x512 : Shape := ⟨2, ![256, 512]⟩
abbrev S1x512x256 : Shape := ⟨3, ![1, 512, 256]⟩
abbrev S512x256 : Shape := ⟨2, ![512, 256]⟩
abbrev S1x256 : Shape := ⟨2, ![1, 256]⟩
abbrev S1x256x640 : Shape := ⟨3, ![1, 256, 640]⟩
abbrev S256x640 : Shape := ⟨2, ![256, 640]⟩
abbrev S1x640x256 : Shape := ⟨3, ![1, 640, 256]⟩
abbrev S640x256 : Shape := ⟨2, ![640, 256]⟩
abbrev S1x256x448 : Shape := ⟨3, ![1, 256, 448]⟩
abbrev S256x448 : Shape := ⟨2, ![256, 448]⟩
abbrev S1x448x192 : Shape := ⟨3, ![1, 448, 192]⟩
abbrev S448x192 : Shape := ⟨2, ![448, 192]⟩
abbrev S256x192 : Shape := ⟨2, ![256, 192]⟩
abbrev S1x192 : Shape := ⟨2, ![1, 192]⟩
abbrev S256x704 : Shape := ⟨2, ![256, 704]⟩
abbrev S128x704 : Shape := ⟨2, ![128, 704]⟩
abbrev S129x704 : Shape := ⟨2, ![129, 704]⟩
abbrev S3x3x32x64 : Shape := ⟨4, ![3, 3, 32, 64]⟩
abbrev S3x22x12 : Shape := ⟨3, ![3, 22, 12]⟩
abbrev S1x3x32x64 : Shape := ⟨4, ![1, 3, 32, 64]⟩
abbrev S3x32x64 : Shape := ⟨3, ![3, 32, 64]⟩
abbrev S32x64x22x12 : Shape := ⟨4, ![32, 64, 22, 12]⟩
abbrev S22x32x12x64 : Shape := ⟨4, ![22, 32, 12, 64]⟩
abbrev S704x768 : Shape := ⟨2, ![704, 768]⟩
abbrev S1x704x768 : Shape := ⟨3, ![1, 704, 768]⟩
abbrev S3x704x768 : Shape := ⟨3, ![3, 704, 768]⟩
abbrev S12x64 : Shape := ⟨2, ![12, 64]⟩
abbrev S10x64 : Shape := ⟨2, ![10, 64]⟩
abbrev S768 : Shape := ⟨1, ![768]⟩
abbrev S1x768 : Shape := ⟨2, ![1, 768]⟩
abbrev S128x128 : Shape := ⟨2, ![128, 128]⟩
abbrev S3x256x256 : Shape := ⟨3, ![3, 256, 256]⟩
abbrev S3x384x256 : Shape := ⟨3, ![3, 384, 256]⟩
abbrev S3x320x256 : Shape := ⟨3, ![3, 320, 256]⟩
abbrev S32x65x768 : Shape := ⟨3, ![32, 65, 768]⟩
abbrev S1x65x768 : Shape := ⟨3, ![1, 65, 768]⟩
abbrev S1x128x256 : Shape := ⟨3, ![1, 128, 256]⟩
abbrev S128x256 : Shape := ⟨2, ![128, 256]⟩
abbrev S1x256x256 : Shape := ⟨3, ![1, 256, 256]⟩
abbrev S1x128x384 : Shape := ⟨3, ![1, 128, 384]⟩
abbrev S128x384 : Shape := ⟨2, ![128, 384]⟩
abbrev S1x384x256 : Shape := ⟨3, ![1, 384, 256]⟩
abbrev S384x256 : Shape := ⟨2, ![384, 256]⟩
abbrev S1x128x320 : Shape := ⟨3, ![1, 128, 320]⟩
abbrev S128x320 : Shape := ⟨2, ![128, 320]⟩
abbrev S1x320x256 : Shape := ⟨3, ![1, 320, 256]⟩
abbrev S320x256 : Shape := ⟨2, ![320, 256]⟩
abbrev S128x768 : Shape := ⟨2, ![128, 768]⟩
abbrev S64x768 : Shape := ⟨2, ![64, 768]⟩
abbrev S65x768 : Shape := ⟨2, ![65, 768]⟩
abbrev S32x64x640 : Shape := ⟨3, ![32, 64, 640]⟩
abbrev S32x64x1x10x64 : Shape := ⟨5, ![32, 64, 1, 10, 64]⟩
abbrev S32x64x2x10x64 : Shape := ⟨5, ![32, 64, 2, 10, 64]⟩
abbrev S32x128x10x64 : Shape := ⟨4, ![32, 128, 10, 64]⟩
abbrev S32x64x128x10 : Shape := ⟨4, ![32, 64, 128, 10]⟩

abbrev nBuf : Space → Nat
  | .hbm => 286
  | .vmem => 40
  | .smem => 0
  | _ => 0

abbrev hbmTy0_0 (i : Nat) : BufTy := match i % 128 with
  | 0 => ⟨S32x1024x80, .f32⟩
  | 1 => ⟨S32x1x3x3, .f32⟩
  | 2 => ⟨S32x32x3x3, .f32⟩
  | 3 => ⟨S64x32x3x3, .f32⟩
  | 4 => ⟨S32, .f32⟩
  | 5 => ⟨S32, .f32⟩
  | 6 => ⟨S64, .f32⟩
  | 7 => ⟨S32, .f32⟩
  | 8 => ⟨S32, .f32⟩
  | 9 => ⟨S64, .f32⟩
  | 10 => ⟨S_, .i32⟩
  | 11 => ⟨S_, .f32⟩
  | 12 => ⟨S32x1026x82, .f32⟩
  | 13 => ⟨S32x1026x82, .bf16⟩
  | 14 => ⟨S32x513x82, .bf16⟩
  | 15 => ⟨S32x513x82, .bf16⟩
  | 16 => ⟨S3x3x1x32, .f32⟩
  | 17 => ⟨S3x82x42, .i32⟩
  | 18 => ⟨S3x82x42, .i32⟩
  | 19 => ⟨S3x82x42, .i32⟩
  | 20 => ⟨S_, .i32⟩
  | 21 => ⟨S3x82x42, .i32⟩
  | 22 => ⟨S3x82x42, .i32⟩
  | 23 => ⟨S_, .i32⟩
  | 24 => ⟨S3x82x42, .i32⟩
  | 25 => ⟨S3x82x42, .i32⟩
  | 26 => ⟨S3x82x42, .i32⟩
  | 27 => ⟨S3x82x42, .i1⟩
  | 28 => ⟨S_, .i32⟩
  | 29 => ⟨S3x82x42, .i32⟩
  | 30 => ⟨S3x82x42, .i1⟩
  | 31 => ⟨S3x82x42, .i1⟩
  | 32 => ⟨S_, .i32⟩
  | 33 => ⟨S3x82x42, .i32⟩
  | 34 => ⟨S3x82x42, .i1⟩
  | 35 => ⟨S3x82x42, .i1⟩
  | 36 => ⟨S3x82x42, .i32⟩
  | 37 => ⟨S3x82x42, .f32⟩
  | 38 => ⟨S1x3x1x32, .f32⟩
  | 39 => ⟨S3x1x32, .f32⟩
  | 40 => ⟨S1x32x82x42, .f32⟩
  | 41 => ⟨S82x1x42x32, .f32⟩
  | 42 => ⟨S82x1344, .f32⟩
  | 43 => ⟨S1x3x1x32, .f32⟩
  | 44 => ⟨S3x1x32, .f32⟩
  | 45 => ⟨S1x32x82x42, .f32⟩
  | 46 => ⟨S82x1x42x32, .f32⟩
  | 47 => ⟨S82x1344, .f32⟩
  | 48 => ⟨S1x3x1x32, .f32⟩
  | 49 => ⟨S3x1x32, .f32⟩
  | 50 => ⟨S1x32x82x42, .f32⟩
  | 51 => ⟨S82x1x42x32, .f32⟩
  | 52 => ⟨S82x1344, .f32⟩
  | 53 => ⟨S1x82x1344, .f32⟩
  | 54 => ⟨S1x82x1344, .f32⟩
  | 55 => ⟨S1x82x1344, .f32⟩
  | 56 => ⟨S3x82x1344, .f32⟩
  | 57 => ⟨S3x82x1344, .bf16⟩
  | 58 => ⟨S_, .f32⟩
  | 59 => ⟨S42x32, .f32⟩
  | 60 => ⟨S_, .i32⟩
  | 61 => ⟨S1, .i32⟩
  | 62 => ⟨S40x32, .f32⟩
  | 63 => ⟨S42x32, .f32⟩
  | 64 => ⟨S1344, .f32⟩
  | 65 => ⟨S_, .f32⟩
  | 66 => ⟨S42x32, .f32⟩
  | 67 => ⟨S_, .i32⟩
  | 68 => ⟨S1, .i32⟩
  | 69 => ⟨S40x32, .f32⟩
  | 70 => ⟨S42x32, .f32⟩
  | 71 => ⟨S1344, .f32⟩
  | 72 => ⟨S1x1344, .f32⟩
  | 73 => ⟨S1x1344, .f32⟩
  | 74 => ⟨S256x256, .i32⟩
  | 75 => ⟨S256x256, .i32⟩
  | 76 => ⟨S_, .i32⟩
  | 77 => ⟨S256x256, .i32⟩
  | 78 => ⟨S256x256, .i1⟩
  | 79 => ⟨S_, .i32⟩
  | 80 => ⟨S256x256, .i32⟩
  | 81 => ⟨S256x256, .i32⟩
  | 82 => ⟨S_, .i32⟩
  | 83 => ⟨S256x256, .i32⟩
  | 84 => ⟨S256x256, .i32⟩
  | 85 => ⟨S_, .i32⟩
  | 86 => ⟨S256x256, .i32⟩
  | 87 => ⟨S256x256, .i32⟩
  | 88 => ⟨S_, .i32⟩
  | 89 => ⟨S256x256, .i32⟩
  | 90 => ⟨S256x256, .i32⟩
  | 91 => ⟨S256x256, .i32⟩
  | 92 => ⟨S256x256, .i1⟩
  | 93 => ⟨S_, .f32⟩
  | 94 => ⟨S_, .f32⟩
  | 95 => ⟨S256x256, .f32⟩
  | 96 => ⟨S256x256, .f32⟩
  | 97 => ⟨S256x256, .f32⟩
  | 98 => ⟨S256x256, .bf16⟩
  | 99 => ⟨S32x257x1344, .bf16⟩
  | 100 => ⟨S32x257x1344, .bf16⟩
  | 101 => ⟨S3x3x32x32, .f32⟩
  | 102 => ⟨S3x42x22, .i32⟩
  | 103 => ⟨S3x42x22, .i32⟩
  | 104 => ⟨S3x42x22, .i32⟩
  | 105 => ⟨S_, .i32⟩
  | 106 => ⟨S3x42x22, .i32⟩
  | 107 => ⟨S3x42x22, .i32⟩
  | 108 => ⟨S_, .i32⟩
  | 109 => ⟨S3x42x22, .i32⟩
  | 110 => ⟨S3x42x22, .i32⟩
  | 111 => ⟨S3x42x22, .i32⟩
  | 112 => ⟨S3x42x22, .i1⟩
  | 113 => ⟨S_, .i32⟩
  | 114 => ⟨S3x42x22, .i32⟩
  | 115 => ⟨S3x42x22, .i1⟩
  | 116 => ⟨S3x42x22, .i1⟩
  | 117 => ⟨S_, .i32⟩
  | 118 => ⟨S3x42x22, .i32⟩
  | 119 => ⟨S3x42x22, .i1⟩
  | 120 => ⟨S3x42x22, .i1⟩
  | 121 => ⟨S3x42x22, .i32⟩
  | 122 => ⟨S3x42x22, .f32⟩
  | 123 => ⟨S1x3x32x32, .f32⟩
  | 124 => ⟨S3x32x32, .f32⟩
  | 125 => ⟨S32x32x42x22, .f32⟩
  | 126 => ⟨S42x32x22x32, .f32⟩
  | 127 => ⟨S1344x704, .f32⟩
  | _ => ⟨S32x1024x80, .f32⟩

abbrev hbmTy0_1 (i : Nat) : BufTy := match i % 128 with
  | 0 => ⟨S1x3x32x32, .f32⟩
  | 1 => ⟨S3x32x32, .f32⟩
  | 2 => ⟨S32x32x42x22, .f32⟩
  | 3 => ⟨S42x32x22x32, .f32⟩
  | 4 => ⟨S1344x704, .f32⟩
  | 5 => ⟨S1x3x32x32, .f32⟩
  | 6 => ⟨S3x32x32, .f32⟩
  | 7 => ⟨S32x32x42x22, .f32⟩
  | 8 => ⟨S42x32x22x32, .f32⟩
  | 9 => ⟨S1344x704, .f32⟩
  | 10 => ⟨S1x1344x704, .f32⟩
  | 11 => ⟨S1x1344x704, .f32⟩
  | 12 => ⟨S1x1344x704, .f32⟩
  | 13 => ⟨S3x1344x704, .f32⟩
  | 14 => ⟨S3x1344x704, .bf16⟩
  | 15 => ⟨S_, .f32⟩
  | 16 => ⟨S22x32, .f32⟩
  | 17 => ⟨S_, .i32⟩
  | 18 => ⟨S1, .i32⟩
  | 19 => ⟨S20x32, .f32⟩
  | 20 => ⟨S22x32, .f32⟩
  | 21 => ⟨S704, .f32⟩
  | 22 => ⟨S_, .f32⟩
  | 23 => ⟨S22x32, .f32⟩
  | 24 => ⟨S_, .i32⟩
  | 25 => ⟨S1, .i32⟩
  | 26 => ⟨S20x32, .f32⟩
  | 27 => ⟨S22x32, .f32⟩
  | 28 => ⟨S704, .f32⟩
  | 29 => ⟨S1x704, .f32⟩
  | 30 => ⟨S1x704, .f32⟩
  | 31 => ⟨S256x256, .i32⟩
  | 32 => ⟨S256x256, .i32⟩
  | 33 => ⟨S_, .i32⟩
  | 34 => ⟨S256x256, .i32⟩
  | 35 => ⟨S256x256, .i1⟩
  | 36 => ⟨S_, .i32⟩
  | 37 => ⟨S256x256, .i32⟩
  | 38 => ⟨S256x256, .i32⟩
  | 39 => ⟨S_, .i32⟩
  | 40 => ⟨S256x256, .i32⟩
  | 41 => ⟨S256x256, .i32⟩
  | 42 => ⟨S_, .i32⟩
  | 43 => ⟨S256x256, .i32⟩
  | 44 => ⟨S256x256, .i32⟩
  | 45 => ⟨S_, .i32⟩
  | 46 => ⟨S256x256, .i32⟩
  | 47 => ⟨S256x256, .i32⟩
  | 48 => ⟨S256x256, .i32⟩
  | 49 => ⟨S256x256, .i1⟩
  | 50 => ⟨S_, .f32⟩
  | 51 => ⟨S_, .f32⟩
  | 52 => ⟨S256x256, .f32⟩
  | 53 => ⟨S256x256, .f32⟩
  | 54 => ⟨S256x256, .f32⟩
  | 55 => ⟨S256x256, .bf16⟩
  | 56 => ⟨S3x512x256, .bf16⟩
  | 57 => ⟨S3x640x256, .bf16⟩
  | 58 => ⟨S3x448x192, .bf16⟩
  | 59 => ⟨S32x129x704, .bf16⟩
  | 60 => ⟨S32x129x704, .bf16⟩
  | 61 => ⟨S3x3x32x64, .f32⟩
  | 62 => ⟨S3x22x12, .i32⟩
  | 63 => ⟨S3x22x12, .i32⟩
  | 64 => ⟨S3x22x12, .i32⟩
  | 65 => ⟨S_, .i32⟩
  | 66 => ⟨S3x22x12, .i32⟩
  | 67 => ⟨S3x22x12, .i32⟩
  | 68 => ⟨S_, .i32⟩
  | 69 => ⟨S3x22x12, .i32⟩
  | 70 => ⟨S3x22x12, .i32⟩
  | 71 => ⟨S3x22x12, .i32⟩
  | 72 => ⟨S3x22x12, .i1⟩
  | 73 => ⟨S_, .i32⟩
  | 74 => ⟨S3x22x12, .i32⟩
  | 75 => ⟨S3x22x12, .i1⟩
  | 76 => ⟨S3x22x12, .i1⟩
  | 77 => ⟨S_, .i32⟩
  | 78 => ⟨S3x22x12, .i32⟩
  | 79 => ⟨S3x22x12, .i1⟩
  | 80 => ⟨S3x22x12, .i1⟩
  | 81 => ⟨S3x22x12, .i32⟩
  | 82 => ⟨S3x22x12, .f32⟩
  | 83 => ⟨S1x3x32x64, .f32⟩
  | 84 => ⟨S3x32x64, .f32⟩
  | 85 => ⟨S32x64x22x12, .f32⟩
  | 86 => ⟨S22x32x12x64, .f32⟩
  | 87 => ⟨S704x768, .f32⟩
  | 88 => ⟨S1x3x32x64, .f32⟩
  | 89 => ⟨S3x32x64, .f32⟩
  | 90 => ⟨S32x64x22x12, .f32⟩
  | 91 => ⟨S22x32x12x64, .f32⟩
  | 92 => ⟨S704x768, .f32⟩
  | 93 => ⟨S1x3x32x64, .f32⟩
  | 94 => ⟨S3x32x64, .f32⟩
  | 95 => ⟨S32x64x22x12, .f32⟩
  | 96 => ⟨S22x32x12x64, .f32⟩
  | 97 => ⟨S704x768, .f32⟩
  | 98 => ⟨S1x704x768, .f32⟩
  | 99 => ⟨S1x704x768, .f32⟩
  | 100 => ⟨S1x704x768, .f32⟩
  | 101 => ⟨S3x704x768, .f32⟩
  | 102 => ⟨S3x704x768, .bf16⟩
  | 103 => ⟨S_, .f32⟩
  | 104 => ⟨S12x64, .f32⟩
  | 105 => ⟨S_, .i32⟩
  | 106 => ⟨S1, .i32⟩
  | 107 => ⟨S10x64, .f32⟩
  | 108 => ⟨S12x64, .f32⟩
  | 109 => ⟨S768, .f32⟩
  | 110 => ⟨S_, .f32⟩
  | 111 => ⟨S12x64, .f32⟩
  | 112 => ⟨S_, .i32⟩
  | 113 => ⟨S1, .i32⟩
  | 114 => ⟨S10x64, .f32⟩
  | 115 => ⟨S12x64, .f32⟩
  | 116 => ⟨S768, .f32⟩
  | 117 => ⟨S1x768, .f32⟩
  | 118 => ⟨S1x768, .f32⟩
  | 119 => ⟨S128x128, .i32⟩
  | 120 => ⟨S128x128, .i32⟩
  | 121 => ⟨S_, .i32⟩
  | 122 => ⟨S128x128, .i32⟩
  | 123 => ⟨S128x128, .i1⟩
  | 124 => ⟨S_, .i32⟩
  | 125 => ⟨S128x128, .i32⟩
  | 126 => ⟨S128x128, .i32⟩
  | 127 => ⟨S_, .i32⟩
  | _ => ⟨S32x1024x80, .f32⟩

abbrev hbmTy0_2 (i : Nat) : BufTy := match i % 128 with
  | 0 => ⟨S128x128, .i32⟩
  | 1 => ⟨S128x128, .i32⟩
  | 2 => ⟨S_, .i32⟩
  | 3 => ⟨S128x128, .i32⟩
  | 4 => ⟨S128x128, .i32⟩
  | 5 => ⟨S_, .i32⟩
  | 6 => ⟨S128x128, .i32⟩
  | 7 => ⟨S128x128, .i32⟩
  | 8 => ⟨S128x128, .i32⟩
  | 9 => ⟨S128x128, .i1⟩
  | 10 => ⟨S_, .f32⟩
  | 11 => ⟨S_, .f32⟩
  | 12 => ⟨S128x128, .f32⟩
  | 13 => ⟨S128x128, .f32⟩
  | 14 => ⟨S128x128, .f32⟩
  | 15 => ⟨S128x128, .bf16⟩
  | 16 => ⟨S3x256x256, .bf16⟩
  | 17 => ⟨S3x384x256, .bf16⟩
  | 18 => ⟨S3x320x256, .bf16⟩
  | 19 => ⟨S32x65x768, .bf16⟩
  | 20 => ⟨S32x65x768, .bf16⟩
  | 21 => ⟨S32x64x640, .bf16⟩
  | 22 => ⟨S32x64x640, .f32⟩
  | 23 => ⟨S32x64x1x10x64, .f32⟩
  | 24 => ⟨S32x64x640, .bf16⟩
  | 25 => ⟨S32x64x640, .f32⟩
  | 26 => ⟨S32x64x1x10x64, .f32⟩
  | 27 => ⟨S32x64x2x10x64, .f32⟩
  | 28 => ⟨S32x128x10x64, .f32⟩
  | 29 => ⟨S32x64x128x10, .f32⟩
  | _ => ⟨S32x1024x80, .f32⟩

abbrev hbmTy (i : Nat) : BufTy := match i / 128 with
  | 0 => hbmTy0_0 i
  | 1 => hbmTy0_1 i
  | 2 => hbmTy0_2 i
  | _ => ⟨S32x1024x80, .f32⟩

abbrev bufTy : (tb : Table) → Fin (tcTables nBuf tb) → BufTy
  | .hbm, ⟨i, _⟩ => hbmTy i
  | .local _ .vmem, ⟨0, _⟩ => ⟨S1x513x82, .bf16⟩
  | .local _ .vmem, ⟨1, _⟩ => ⟨S1x513x82, .bf16⟩
  | .local _ .vmem, ⟨2, _⟩ => ⟨S1x513x82, .bf16⟩
  | .local _ .vmem, ⟨3, _⟩ => ⟨S1x513x82, .bf16⟩
  | .local _ .vmem, ⟨4, _⟩ => ⟨S3x82x1344, .bf16⟩
  | .local _ .vmem, ⟨5, _⟩ => ⟨S1x1344, .f32⟩
  | .local _ .vmem, ⟨6, _⟩ => ⟨S1x1344, .f32⟩
  | .local _ .vmem, ⟨7, _⟩ => ⟨S256x256, .bf16⟩
  | .local _ .vmem, ⟨8, _⟩ => ⟨S1x257x1344, .bf16⟩
  | .local _ .vmem, ⟨9, _⟩ => ⟨S1x257x1344, .bf16⟩
  | .local _ .vmem, ⟨10, _⟩ => ⟨S1x257x1344, .bf16⟩
  | .local _ .vmem, ⟨11, _⟩ => ⟨S1x257x1344, .bf16⟩
  | .local _ .vmem, ⟨12, _⟩ => ⟨S1x257x1344, .bf16⟩
  | .local _ .vmem, ⟨13, _⟩ => ⟨S1x257x1344, .bf16⟩
  | .local _ .vmem, ⟨14, _⟩ => ⟨S1x257x1344, .bf16⟩
  | .local _ .vmem, ⟨15, _⟩ => ⟨S1x257x1344, .bf16⟩
  | .local _ .vmem, ⟨16, _⟩ => ⟨S3x512x256, .bf16⟩
  | .local _ .vmem, ⟨17, _⟩ => ⟨S3x640x256, .bf16⟩
  | .local _ .vmem, ⟨18, _⟩ => ⟨S3x448x192, .bf16⟩
  | .local _ .vmem, ⟨19, _⟩ => ⟨S1x704, .f32⟩
  | .local _ .vmem, ⟨20, _⟩ => ⟨S1x704, .f32⟩
  | .local _ .vmem, ⟨21, _⟩ => ⟨S256x256, .bf16⟩
  | .local _ .vmem, ⟨22, _⟩ => ⟨S1x129x704, .bf16⟩
  | .local _ .vmem, ⟨23, _⟩ => ⟨S1x129x704, .bf16⟩
  | .local _ .vmem, ⟨24, _⟩ => ⟨S1x129x704, .bf16⟩
  | .local _ .vmem, ⟨25, _⟩ => ⟨S1x129x704, .bf16⟩
  | .local _ .vmem, ⟨26, _⟩ => ⟨S1x129x704, .bf16⟩
  | .local _ .vmem, ⟨27, _⟩ => ⟨S1x129x704, .bf16⟩
  | .local _ .vmem, ⟨28, _⟩ => ⟨S1x129x704, .bf16⟩
  | .local _ .vmem, ⟨29, _⟩ => ⟨S1x129x704, .bf16⟩
  | .local _ .vmem, ⟨30, _⟩ => ⟨S3x256x256, .bf16⟩
  | .local _ .vmem, ⟨31, _⟩ => ⟨S3x384x256, .bf16⟩
  | .local _ .vmem, ⟨32, _⟩ => ⟨S3x320x256, .bf16⟩
  | .local _ .vmem, ⟨33, _⟩ => ⟨S1x768, .f32⟩
  | .local _ .vmem, ⟨34, _⟩ => ⟨S1x768, .f32⟩
  | .local _ .vmem, ⟨35, _⟩ => ⟨S128x128, .bf16⟩
  | .local _ .vmem, ⟨36, _⟩ => ⟨S1x65x768, .bf16⟩
  | .local _ .vmem, ⟨37, _⟩ => ⟨S1x65x768, .bf16⟩
  | .local _ .vmem, ⟨38, _⟩ => ⟨S1x65x768, .bf16⟩
  | .local _ .vmem, ⟨39, _⟩ => ⟨S1x65x768, .bf16⟩
  | _, _ => ⟨S32x1024x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst : Ref sig .tc := ⟨.hbm, 58, rfl⟩
abbrev main_v42 : Ref sig .tc := ⟨.hbm, 59, rfl⟩
abbrev main_c_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_7 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_c_10 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_cst_13 : Ref sig .tc := ⟨.hbm, 94, rfl⟩
abbrev main_call2_v0 : Ref sig .tc := ⟨.hbm, 95, rfl⟩
abbrev main_call2_v1 : Ref sig .tc := ⟨.hbm, 96, rfl⟩
abbrev main_v68 : Ref sig .tc := ⟨.hbm, 97, rfl⟩
abbrev main_v69 : Ref sig .tc := ⟨.hbm, 98, rfl⟩
abbrev main_v70_0 : Ref sig .tc := ⟨.hbm, 99, rfl⟩
abbrev main_v70_1 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_18 : Ref sig .tc := ⟨.hbm, 143, rfl⟩
abbrev main_v109 : Ref sig .tc := ⟨.hbm, 144, rfl⟩
abbrev main_c_19 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_20 : Ref sig .tc := ⟨.hbm, 150, rfl⟩
abbrev main_v114 : Ref sig .tc := ⟨.hbm, 151, rfl⟩
abbrev main_c_21 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_22 : Ref sig .tc := ⟨.hbm, 161, rfl⟩
abbrev main_v123 : Ref sig .tc := ⟨.hbm, 162, rfl⟩
abbrev main_v124 : Ref sig .tc := ⟨.hbm, 163, rfl⟩
abbrev main_c_23 : Ref sig .tc := ⟨.hbm, 164, rfl⟩
abbrev main_v125 : Ref sig .tc := ⟨.hbm, 165, rfl⟩
abbrev main_v126 : Ref sig .tc := ⟨.hbm, 166, rfl⟩
abbrev main_c_24 : Ref sig .tc := ⟨.hbm, 167, rfl⟩
abbrev main_v127 : Ref sig .tc := ⟨.hbm, 168, rfl⟩
abbrev main_v128 : Ref sig .tc := ⟨.hbm, 169, rfl⟩
abbrev main_c_25 : Ref sig .tc := ⟨.hbm, 170, rfl⟩
abbrev main_v129 : Ref sig .tc := ⟨.hbm, 171, rfl⟩
abbrev main_v130 : Ref sig .tc := ⟨.hbm, 172, rfl⟩
abbrev main_c_26 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_27 : Ref sig .tc := ⟨.hbm, 178, rfl⟩
abbrev main_cst_28 : Ref sig .tc := ⟨.hbm, 179, rfl⟩
abbrev main_call4_v0 : Ref sig .tc := ⟨.hbm, 180, rfl⟩
abbrev main_call4_v1 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140_0 : Ref sig .tc := ⟨.hbm, 187, rfl⟩
abbrev main_v140_1 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_c_29 : Ref sig .tc := ⟨.hbm, 193, rfl⟩
abbrev main_v145 : Ref sig .tc := ⟨.hbm, 194, rfl⟩
abbrev main_v146 : Ref sig .tc := ⟨.hbm, 195, rfl⟩
abbrev main_c_30 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_c_31 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_c_32 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_33 : Ref sig .tc := ⟨.hbm, 231, rfl⟩
abbrev main_v179 : Ref sig .tc := ⟨.hbm, 232, rfl⟩
abbrev main_c_34 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_35 : Ref sig .tc := ⟨.hbm, 238, rfl⟩
abbrev main_v184 : Ref sig .tc := ⟨.hbm, 239, rfl⟩
abbrev main_c_36 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_c_37 : Ref sig .tc := ⟨.hbm, 249, rfl⟩
abbrev main_v193 : Ref sig .tc := ⟨.hbm, 250, rfl⟩
abbrev main_v194 : Ref sig .tc := ⟨.hbm, 251, rfl⟩
abbrev main_c_38 : Ref sig .tc := ⟨.hbm, 252, rfl⟩
abbrev main_v195 : Ref sig .tc := ⟨.hbm, 253, rfl⟩
abbrev main_v196 : Ref sig .tc := ⟨.hbm, 254, rfl⟩
abbrev main_c_39 : Ref sig .tc := ⟨.hbm, 255, rfl⟩
abbrev main_v197 : Ref sig .tc := ⟨.hbm, 256, rfl⟩
abbrev main_v198 : Ref sig .tc := ⟨.hbm, 257, rfl⟩
abbrev main_c_40 : Ref sig .tc := ⟨.hbm, 258, rfl⟩
abbrev main_v199 : Ref sig .tc := ⟨.hbm, 259, rfl⟩
abbrev main_v200 : Ref sig .tc := ⟨.hbm, 260, rfl⟩
abbrev main_c_41 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_cst_42 : Ref sig .tc := ⟨.hbm, 266, rfl⟩
abbrev main_cst_43 : Ref sig .tc := ⟨.hbm, 267, rfl⟩
abbrev main_call6_v0 : Ref sig .tc := ⟨.hbm, 268, rfl⟩
abbrev main_call6_v1 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210_0 : Ref sig .tc := ⟨.hbm, 275, rfl⟩
abbrev main_v210_1 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg9_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem8_1 : DmaSem sig := 37
abbrev cc2_sem9_0 : DmaSem sig := 38
abbrev cc2_sem9_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x513x82 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x513x82 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x82x1344 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1344 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1344 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x257x1344 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x257x1344 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x257x1344 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x257x1344 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x640x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x448x192 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x704 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x704 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x129x704 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x129x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x129x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x129x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x384x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x320x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x65x768 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x65x768 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelIdeal.lean ====
variable {F : FTy → Type} [FloatOps F] [Named F]
def κ : String → Option EReal := fun
  | "bn" => some ((Real.sqrt (2097173 / 2097152) : ℝ) : EReal)
  | _ => none
-- ==== ReferenceIdeal.lean ====
abbrev S32x1024x80 : Shape := ⟨3, ![32, 1024, 80]⟩
abbrev S32x1x3x3 : Shape := ⟨4, ![32, 1, 3, 3]⟩
abbrev S32x32x3x3 : Shape := ⟨4, ![32, 32, 3, 3]⟩
abbrev S64x32x3x3 : Shape := ⟨4, ![64, 32, 3, 3]⟩
abbrev S32 : Shape := ⟨1, ![32]⟩
abbrev S64 : Shape := ⟨1, ![64]⟩
abbrev S32x1x1024x80 : Shape := ⟨4, ![32, 1, 1024, 80]⟩
abbrev S_ : Shape := ⟨0, ![]⟩
abbrev S32x1x1026x82 : Shape := ⟨4, ![32, 1, 1026, 82]⟩
abbrev S32x1x512x40 : Shape := ⟨4, ![32, 1, 512, 40]⟩
abbrev S32x1x1x1 : Shape := ⟨4, ![32, 1, 1, 1]⟩
abbrev S32x1 : Shape := ⟨2, ![32, 1]⟩
abbrev S32x32x512x40 : Shape := ⟨4, ![32, 32, 512, 40]⟩
abbrev S1x32x1x1 : Shape := ⟨4, ![1, 32, 1, 1]⟩
abbrev S32x32x514x42 : Shape := ⟨4, ![32, 32, 514, 42]⟩
abbrev S32x32x256x20 : Shape := ⟨4, ![32, 32, 256, 20]⟩
abbrev S32x32x1x1 : Shape := ⟨4, ![32, 32, 1, 1]⟩
abbrev S32x32 : Shape := ⟨2, ![32, 32]⟩
abbrev S32x32x258x22 : Shape := ⟨4, ![32, 32, 258, 22]⟩
abbrev S32x32x128x10 : Shape := ⟨4, ![32, 32, 128, 10]⟩
abbrev S64x32x1x1 : Shape := ⟨4, ![64, 32, 1, 1]⟩
abbrev S64x32 : Shape := ⟨2, ![64, 32]⟩
abbrev S64x32x128x10 : Shape := ⟨4, ![64, 32, 128, 10]⟩
abbrev S32x64x128x10 : Shape := ⟨4, ![32, 64, 128, 10]⟩
abbrev S1x64x1x1 : Shape := ⟨4, ![1, 64, 1, 1]⟩

abbrev nBuf : Space → Nat
  | .hbm => 218
  | .vmem => 0
  | .smem => 0
  | _ => 0

abbrev hbmTy0_0 (i : Nat) : BufTy := match i % 128 with
  | 0 => ⟨S32x1024x80, .f32⟩
  | 1 => ⟨S32x1x3x3, .f32⟩
  | 2 => ⟨S32x32x3x3, .f32⟩
  | 3 => ⟨S64x32x3x3, .f32⟩
  | 4 => ⟨S32, .f32⟩
  | 5 => ⟨S32, .f32⟩
  | 6 => ⟨S64, .f32⟩
  | 7 => ⟨S32, .f32⟩
  | 8 => ⟨S32, .f32⟩
  | 9 => ⟨S64, .f32⟩
  | 10 => ⟨S32x1x1024x80, .f32⟩
  | 11 => ⟨S_, .f32⟩
  | 12 => ⟨S32x1x1026x82, .f32⟩
  | 13 => ⟨S32x1x512x40, .f32⟩
  | 14 => ⟨S32x1x1x1, .f32⟩
  | 15 => ⟨S32x1, .f32⟩
  | 16 => ⟨S32x32x512x40, .f32⟩
  | 17 => ⟨S32x32x512x40, .f32⟩
  | 18 => ⟨S32x1x512x40, .f32⟩
  | 19 => ⟨S32x1x1x1, .f32⟩
  | 20 => ⟨S32x1, .f32⟩
  | 21 => ⟨S32x32x512x40, .f32⟩
  | 22 => ⟨S32x32x512x40, .f32⟩
  | 23 => ⟨S32x32x512x40, .f32⟩
  | 24 => ⟨S32x1x512x40, .f32⟩
  | 25 => ⟨S32x1x1x1, .f32⟩
  | 26 => ⟨S32x1, .f32⟩
  | 27 => ⟨S32x32x512x40, .f32⟩
  | 28 => ⟨S32x32x512x40, .f32⟩
  | 29 => ⟨S32x32x512x40, .f32⟩
  | 30 => ⟨S32x1x512x40, .f32⟩
  | 31 => ⟨S32x1x1x1, .f32⟩
  | 32 => ⟨S32x1, .f32⟩
  | 33 => ⟨S32x32x512x40, .f32⟩
  | 34 => ⟨S32x32x512x40, .f32⟩
  | 35 => ⟨S32x32x512x40, .f32⟩
  | 36 => ⟨S32x1x512x40, .f32⟩
  | 37 => ⟨S32x1x1x1, .f32⟩
  | 38 => ⟨S32x1, .f32⟩
  | 39 => ⟨S32x32x512x40, .f32⟩
  | 40 => ⟨S32x32x512x40, .f32⟩
  | 41 => ⟨S32x32x512x40, .f32⟩
  | 42 => ⟨S32x1x512x40, .f32⟩
  | 43 => ⟨S32x1x1x1, .f32⟩
  | 44 => ⟨S32x1, .f32⟩
  | 45 => ⟨S32x32x512x40, .f32⟩
  | 46 => ⟨S32x32x512x40, .f32⟩
  | 47 => ⟨S32x32x512x40, .f32⟩
  | 48 => ⟨S32x1x512x40, .f32⟩
  | 49 => ⟨S32x1x1x1, .f32⟩
  | 50 => ⟨S32x1, .f32⟩
  | 51 => ⟨S32x32x512x40, .f32⟩
  | 52 => ⟨S32x32x512x40, .f32⟩
  | 53 => ⟨S32x32x512x40, .f32⟩
  | 54 => ⟨S32x1x512x40, .f32⟩
  | 55 => ⟨S32x1x1x1, .f32⟩
  | 56 => ⟨S32x1, .f32⟩
  | 57 => ⟨S32x32x512x40, .f32⟩
  | 58 => ⟨S32x32x512x40, .f32⟩
  | 59 => ⟨S32x32x512x40, .f32⟩
  | 60 => ⟨S32x1x512x40, .f32⟩
  | 61 => ⟨S32x1x1x1, .f32⟩
  | 62 => ⟨S32x1, .f32⟩
  | 63 => ⟨S32x32x512x40, .f32⟩
  | 64 => ⟨S32x32x512x40, .f32⟩
  | 65 => ⟨S32x32x512x40, .f32⟩
  | 66 => ⟨S1x32x1x1, .f32⟩
  | 67 => ⟨S32x32x512x40, .f32⟩
  | 68 => ⟨S32x32x512x40, .f32⟩
  | 69 => ⟨S_, .f32⟩
  | 70 => ⟨S_, .f32⟩
  | 71 => ⟨S_, .f32⟩
  | 72 => ⟨S32x32x512x40, .f32⟩
  | 73 => ⟨S32x32x512x40, .f32⟩
  | 74 => ⟨S1x32x1x1, .f32⟩
  | 75 => ⟨S32x32x512x40, .f32⟩
  | 76 => ⟨S32x32x512x40, .f32⟩
  | 77 => ⟨S_, .f32⟩
  | 78 => ⟨S32x32x512x40, .f32⟩
  | 79 => ⟨S32x32x512x40, .f32⟩
  | 80 => ⟨S_, .f32⟩
  | 81 => ⟨S32x32x514x42, .f32⟩
  | 82 => ⟨S32x32x256x20, .f32⟩
  | 83 => ⟨S32x32x1x1, .f32⟩
  | 84 => ⟨S32x32, .f32⟩
  | 85 => ⟨S32x32x256x20, .f32⟩
  | 86 => ⟨S32x32x256x20, .f32⟩
  | 87 => ⟨S32x32x256x20, .f32⟩
  | 88 => ⟨S32x32x1x1, .f32⟩
  | 89 => ⟨S32x32, .f32⟩
  | 90 => ⟨S32x32x256x20, .f32⟩
  | 91 => ⟨S32x32x256x20, .f32⟩
  | 92 => ⟨S32x32x256x20, .f32⟩
  | 93 => ⟨S32x32x256x20, .f32⟩
  | 94 => ⟨S32x32x1x1, .f32⟩
  | 95 => ⟨S32x32, .f32⟩
  | 96 => ⟨S32x32x256x20, .f32⟩
  | 97 => ⟨S32x32x256x20, .f32⟩
  | 98 => ⟨S32x32x256x20, .f32⟩
  | 99 => ⟨S32x32x256x20, .f32⟩
  | 100 => ⟨S32x32x1x1, .f32⟩
  | 101 => ⟨S32x32, .f32⟩
  | 102 => ⟨S32x32x256x20, .f32⟩
  | 103 => ⟨S32x32x256x20, .f32⟩
  | 104 => ⟨S32x32x256x20, .f32⟩
  | 105 => ⟨S32x32x256x20, .f32⟩
  | 106 => ⟨S32x32x1x1, .f32⟩
  | 107 => ⟨S32x32, .f32⟩
  | 108 => ⟨S32x32x256x20, .f32⟩
  | 109 => ⟨S32x32x256x20, .f32⟩
  | 110 => ⟨S32x32x256x20, .f32⟩
  | 111 => ⟨S32x32x256x20, .f32⟩
  | 112 => ⟨S32x32x1x1, .f32⟩
  | 113 => ⟨S32x32, .f32⟩
  | 114 => ⟨S32x32x256x20, .f32⟩
  | 115 => ⟨S32x32x256x20, .f32⟩
  | 116 => ⟨S32x32x256x20, .f32⟩
  | 117 => ⟨S32x32x256x20, .f32⟩
  | 118 => ⟨S32x32x1x1, .f32⟩
  | 119 => ⟨S32x32, .f32⟩
  | 120 => ⟨S32x32x256x20, .f32⟩
  | 121 => ⟨S32x32x256x20, .f32⟩
  | 122 => ⟨S32x32x256x20, .f32⟩
  | 123 => ⟨S32x32x256x20, .f32⟩
  | 124 => ⟨S32x32x1x1, .f32⟩
  | 125 => ⟨S32x32, .f32⟩
  | 126 => ⟨S32x32x256x20, .f32⟩
  | 127 => ⟨S32x32x256x20, .f32⟩
  | _ => ⟨S32x1024x80, .f32⟩

abbrev hbmTy0_1 (i : Nat) : BufTy := match i % 128 with
  | 0 => ⟨S32x32x256x20, .f32⟩
  | 1 => ⟨S32x32x256x20, .f32⟩
  | 2 => ⟨S32x32x1x1, .f32⟩
  | 3 => ⟨S32x32, .f32⟩
  | 4 => ⟨S32x32x256x20, .f32⟩
  | 5 => ⟨S32x32x256x20, .f32⟩
  | 6 => ⟨S32x32x256x20, .f32⟩
  | 7 => ⟨S1x32x1x1, .f32⟩
  | 8 => ⟨S32x32x256x20, .f32⟩
  | 9 => ⟨S32x32x256x20, .f32⟩
  | 10 => ⟨S_, .f32⟩
  | 11 => ⟨S_, .f32⟩
  | 12 => ⟨S_, .f32⟩
  | 13 => ⟨S32x32x256x20, .f32⟩
  | 14 => ⟨S32x32x256x20, .f32⟩
  | 15 => ⟨S1x32x1x1, .f32⟩
  | 16 => ⟨S32x32x256x20, .f32⟩
  | 17 => ⟨S32x32x256x20, .f32⟩
  | 18 => ⟨S_, .f32⟩
  | 19 => ⟨S32x32x256x20, .f32⟩
  | 20 => ⟨S32x32x256x20, .f32⟩
  | 21 => ⟨S_, .f32⟩
  | 22 => ⟨S32x32x258x22, .f32⟩
  | 23 => ⟨S32x32x128x10, .f32⟩
  | 24 => ⟨S64x32x1x1, .f32⟩
  | 25 => ⟨S64x32, .f32⟩
  | 26 => ⟨S64x32x128x10, .f32⟩
  | 27 => ⟨S32x64x128x10, .f32⟩
  | 28 => ⟨S32x32x128x10, .f32⟩
  | 29 => ⟨S64x32x1x1, .f32⟩
  | 30 => ⟨S64x32, .f32⟩
  | 31 => ⟨S64x32x128x10, .f32⟩
  | 32 => ⟨S32x64x128x10, .f32⟩
  | 33 => ⟨S32x64x128x10, .f32⟩
  | 34 => ⟨S32x32x128x10, .f32⟩
  | 35 => ⟨S64x32x1x1, .f32⟩
  | 36 => ⟨S64x32, .f32⟩
  | 37 => ⟨S64x32x128x10, .f32⟩
  | 38 => ⟨S32x64x128x10, .f32⟩
  | 39 => ⟨S32x64x128x10, .f32⟩
  | 40 => ⟨S32x32x128x10, .f32⟩
  | 41 => ⟨S64x32x1x1, .f32⟩
  | 42 => ⟨S64x32, .f32⟩
  | 43 => ⟨S64x32x128x10, .f32⟩
  | 44 => ⟨S32x64x128x10, .f32⟩
  | 45 => ⟨S32x64x128x10, .f32⟩
  | 46 => ⟨S32x32x128x10, .f32⟩
  | 47 => ⟨S64x32x1x1, .f32⟩
  | 48 => ⟨S64x32, .f32⟩
  | 49 => ⟨S64x32x128x10, .f32⟩
  | 50 => ⟨S32x64x128x10, .f32⟩
  | 51 => ⟨S32x64x128x10, .f32⟩
  | 52 => ⟨S32x32x128x10, .f32⟩
  | 53 => ⟨S64x32x1x1, .f32⟩
  | 54 => ⟨S64x32, .f32⟩
  | 55 => ⟨S64x32x128x10, .f32⟩
  | 56 => ⟨S32x64x128x10, .f32⟩
  | 57 => ⟨S32x64x128x10, .f32⟩
  | 58 => ⟨S32x32x128x10, .f32⟩
  | 59 => ⟨S64x32x1x1, .f32⟩
  | 60 => ⟨S64x32, .f32⟩
  | 61 => ⟨S64x32x128x10, .f32⟩
  | 62 => ⟨S32x64x128x10, .f32⟩
  | 63 => ⟨S32x64x128x10, .f32⟩
  | 64 => ⟨S32x32x128x10, .f32⟩
  | 65 => ⟨S64x32x1x1, .f32⟩
  | 66 => ⟨S64x32, .f32⟩
  | 67 => ⟨S64x32x128x10, .f32⟩
  | 68 => ⟨S32x64x128x10, .f32⟩
  | 69 => ⟨S32x64x128x10, .f32⟩
  | 70 => ⟨S32x32x128x10, .f32⟩
  | 71 => ⟨S64x32x1x1, .f32⟩
  | 72 => ⟨S64x32, .f32⟩
  | 73 => ⟨S64x32x128x10, .f32⟩
  | 74 => ⟨S32x64x128x10, .f32⟩
  | 75 => ⟨S32x64x128x10, .f32⟩
  | 76 => ⟨S1x64x1x1, .f32⟩
  | 77 => ⟨S32x64x128x10, .f32⟩
  | 78 => ⟨S32x64x128x10, .f32⟩
  | 79 => ⟨S_, .f32⟩
  | 80 => ⟨S_, .f32⟩
  | 81 => ⟨S_, .f32⟩
  | 82 => ⟨S32x64x128x10, .f32⟩
  | 83 => ⟨S32x64x128x10, .f32⟩
  | 84 => ⟨S1x64x1x1, .f32⟩
  | 85 => ⟨S32x64x128x10, .f32⟩
  | 86 => ⟨S32x64x128x10, .f32⟩
  | 87 => ⟨S_, .f32⟩
  | 88 => ⟨S32x64x128x10, .f32⟩
  | 89 => ⟨S32x64x128x10, .f32⟩
  | _ => ⟨S32x1024x80, .f32⟩

abbrev hbmTy (i : Nat) : BufTy := match i / 128 with
  | 0 => hbmTy0_0 i
  | 1 => hbmTy0_1 i
  | _ => ⟨S32x1024x80, .f32⟩

abbrev bufTy : (tb : Table) → Fin (tcTables nBuf tb) → BufTy
  | .hbm, ⟨i, _⟩ => hbmTy i
  | _, _ => ⟨S32x1024x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_v35 : Ref sig .tc := ⟨.hbm, 47, rfl⟩
abbrev main_call0_v36 : Ref sig .tc := ⟨.hbm, 48, rfl⟩
abbrev main_call0_v37 : Ref sig .tc := ⟨.hbm, 49, rfl⟩
abbrev main_call0_v38 : Ref sig .tc := ⟨.hbm, 50, rfl⟩
abbrev main_call0_v39 : Ref sig .tc := ⟨.hbm, 51, rfl⟩
abbrev main_call0_v40 : Ref sig .tc := ⟨.hbm, 52, rfl⟩
abbrev main_call0_v41 : Ref sig .tc := ⟨.hbm, 53, rfl⟩
abbrev main_call0_v42 : Ref sig .tc := ⟨.hbm, 54, rfl⟩
abbrev main_call0_v43 : Ref sig .tc := ⟨.hbm, 55, rfl⟩
abbrev main_call0_v44 : Ref sig .tc := ⟨.hbm, 56, rfl⟩
abbrev main_call0_v45 : Ref sig .tc := ⟨.hbm, 57, rfl⟩
abbrev main_call0_v46 : Ref sig .tc := ⟨.hbm, 58, rfl⟩
abbrev main_call0_v47 : Ref sig .tc := ⟨.hbm, 59, rfl⟩
abbrev main_call0_v48 : Ref sig .tc := ⟨.hbm, 60, rfl⟩
abbrev main_call0_v49 : Ref sig .tc := ⟨.hbm, 61, rfl⟩
abbrev main_call0_v50 : Ref sig .tc := ⟨.hbm, 62, rfl⟩
abbrev main_call0_v51 : Ref sig .tc := ⟨.hbm, 63, rfl⟩
abbrev main_call0_v52 : Ref sig .tc := ⟨.hbm, 64, rfl⟩
abbrev main_call0_v53 : Ref sig .tc := ⟨.hbm, 65, rfl⟩
abbrev main_call0_v54 : Ref sig .tc := ⟨.hbm, 66, rfl⟩
abbrev main_call0_v55 : Ref sig .tc := ⟨.hbm, 67, rfl⟩
abbrev main_call0_v56 : Ref sig .tc := ⟨.hbm, 68, rfl⟩
abbrev main_call0_cst_0 : Ref sig .tc := ⟨.hbm, 69, rfl⟩
abbrev main_call0_v57 : Ref sig .tc := ⟨.hbm, 70, rfl⟩
abbrev main_call0_v58 : Ref sig .tc := ⟨.hbm, 71, rfl⟩
abbrev main_call0_v59 : Ref sig .tc := ⟨.hbm, 72, rfl⟩
abbrev main_call0_v60 : Ref sig .tc := ⟨.hbm, 73, rfl⟩
abbrev main_call0_v61 : Ref sig .tc := ⟨.hbm, 74, rfl⟩
abbrev main_call0_v62 : Ref sig .tc := ⟨.hbm, 75, rfl⟩
abbrev main_call0_v63 : Ref sig .tc := ⟨.hbm, 76, rfl⟩
abbrev main_call0_cst_1 : Ref sig .tc := ⟨.hbm, 77, rfl⟩
abbrev main_call0_v64 : Ref sig .tc := ⟨.hbm, 78, rfl⟩
abbrev main_v1 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_v15 : Ref sig .tc := ⟨.hbm, 96, rfl⟩
abbrev main_call1_v16 : Ref sig .tc := ⟨.hbm, 97, rfl⟩
abbrev main_call1_v17 : Ref sig .tc := ⟨.hbm, 98, rfl⟩
abbrev main_call1_v18 : Ref sig .tc := ⟨.hbm, 99, rfl⟩
abbrev main_call1_v19 : Ref sig .tc := ⟨.hbm, 100, rfl⟩
abbrev main_call1_v20 : Ref sig .tc := ⟨.hbm, 101, rfl⟩
abbrev main_call1_v21 : Ref sig .tc := ⟨.hbm, 102, rfl⟩
abbrev main_call1_v22 : Ref sig .tc := ⟨.hbm, 103, rfl⟩
abbrev main_call1_v23 : Ref sig .tc := ⟨.hbm, 104, rfl⟩
abbrev main_call1_v24 : Ref sig .tc := ⟨.hbm, 105, rfl⟩
abbrev main_call1_v25 : Ref sig .tc := ⟨.hbm, 106, rfl⟩
abbrev main_call1_v26 : Ref sig .tc := ⟨.hbm, 107, rfl⟩
abbrev main_call1_v27 : Ref sig .tc := ⟨.hbm, 108, rfl⟩
abbrev main_call1_v28 : Ref sig .tc := ⟨.hbm, 109, rfl⟩
abbrev main_call1_v29 : Ref sig .tc := ⟨.hbm, 110, rfl⟩
abbrev main_call1_v30 : Ref sig .tc := ⟨.hbm, 111, rfl⟩
abbrev main_call1_v31 : Ref sig .tc := ⟨.hbm, 112, rfl⟩
abbrev main_call1_v32 : Ref sig .tc := ⟨.hbm, 113, rfl⟩
abbrev main_call1_v33 : Ref sig .tc := ⟨.hbm, 114, rfl⟩
abbrev main_call1_v34 : Ref sig .tc := ⟨.hbm, 115, rfl⟩
abbrev main_call1_v35 : Ref sig .tc := ⟨.hbm, 116, rfl⟩
abbrev main_call1_v36 : Ref sig .tc := ⟨.hbm, 117, rfl⟩
abbrev main_call1_v37 : Ref sig .tc := ⟨.hbm, 118, rfl⟩
abbrev main_call1_v38 : Ref sig .tc := ⟨.hbm, 119, rfl⟩
abbrev main_call1_v39 : Ref sig .tc := ⟨.hbm, 120, rfl⟩
abbrev main_call1_v40 : Ref sig .tc := ⟨.hbm, 121, rfl⟩
abbrev main_call1_v41 : Ref sig .tc := ⟨.hbm, 122, rfl⟩
abbrev main_call1_v42 : Ref sig .tc := ⟨.hbm, 123, rfl⟩
abbrev main_call1_v43 : Ref sig .tc := ⟨.hbm, 124, rfl⟩
abbrev main_call1_v44 : Ref sig .tc := ⟨.hbm, 125, rfl⟩
abbrev main_call1_v45 : Ref sig .tc := ⟨.hbm, 126, rfl⟩
abbrev main_call1_v46 : Ref sig .tc := ⟨.hbm, 127, rfl⟩
abbrev main_call1_v47 : Ref sig .tc := ⟨.hbm, 128, rfl⟩
abbrev main_call1_v48 : Ref sig .tc := ⟨.hbm, 129, rfl⟩
abbrev main_call1_v49 : Ref sig .tc := ⟨.hbm, 130, rfl⟩
abbrev main_call1_v50 : Ref sig .tc := ⟨.hbm, 131, rfl⟩
abbrev main_call1_v51 : Ref sig .tc := ⟨.hbm, 132, rfl⟩
abbrev main_call1_v52 : Ref sig .tc := ⟨.hbm, 133, rfl⟩
abbrev main_call1_v53 : Ref sig .tc := ⟨.hbm, 134, rfl⟩
abbrev main_call1_v54 : Ref sig .tc := ⟨.hbm, 135, rfl⟩
abbrev main_call1_v55 : Ref sig .tc := ⟨.hbm, 136, rfl⟩
abbrev main_call1_v56 : Ref sig .tc := ⟨.hbm, 137, rfl⟩
abbrev main_call1_cst_0 : Ref sig .tc := ⟨.hbm, 138, rfl⟩
abbrev main_call1_v57 : Ref sig .tc := ⟨.hbm, 139, rfl⟩
abbrev main_call1_v58 : Ref sig .tc := ⟨.hbm, 140, rfl⟩
abbrev main_call1_v59 : Ref sig .tc := ⟨.hbm, 141, rfl⟩
abbrev main_call1_v60 : Ref sig .tc := ⟨.hbm, 142, rfl⟩
abbrev main_call1_v61 : Ref sig .tc := ⟨.hbm, 143, rfl⟩
abbrev main_call1_v62 : Ref sig .tc := ⟨.hbm, 144, rfl⟩
abbrev main_call1_v63 : Ref sig .tc := ⟨.hbm, 145, rfl⟩
abbrev main_call1_cst_1 : Ref sig .tc := ⟨.hbm, 146, rfl⟩
abbrev main_call1_v64 : Ref sig .tc := ⟨.hbm, 147, rfl⟩
abbrev main_v2 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_v12 : Ref sig .tc := ⟨.hbm, 162, rfl⟩
abbrev main_call2_v13 : Ref sig .tc := ⟨.hbm, 163, rfl⟩
abbrev main_call2_v14 : Ref sig .tc := ⟨.hbm, 164, rfl⟩
abbrev main_call2_v15 : Ref sig .tc := ⟨.hbm, 165, rfl⟩
abbrev main_call2_v16 : Ref sig .tc := ⟨.hbm, 166, rfl⟩
abbrev main_call2_v17 : Ref sig .tc := ⟨.hbm, 167, rfl⟩
abbrev main_call2_v18 : Ref sig .tc := ⟨.hbm, 168, rfl⟩
abbrev main_call2_v19 : Ref sig .tc := ⟨.hbm, 169, rfl⟩
abbrev main_call2_v20 : Ref sig .tc := ⟨.hbm, 170, rfl⟩
abbrev main_call2_v21 : Ref sig .tc := ⟨.hbm, 171, rfl⟩
abbrev main_call2_v22 : Ref sig .tc := ⟨.hbm, 172, rfl⟩
abbrev main_call2_v23 : Ref sig .tc := ⟨.hbm, 173, rfl⟩
abbrev main_call2_v24 : Ref sig .tc := ⟨.hbm, 174, rfl⟩
abbrev main_call2_v25 : Ref sig .tc := ⟨.hbm, 175, rfl⟩
abbrev main_call2_v26 : Ref sig .tc := ⟨.hbm, 176, rfl⟩
abbrev main_call2_v27 : Ref sig .tc := ⟨.hbm, 177, rfl⟩
abbrev main_call2_v28 : Ref sig .tc := ⟨.hbm, 178, rfl⟩
abbrev main_call2_v29 : Ref sig .tc := ⟨.hbm, 179, rfl⟩
abbrev main_call2_v30 : Ref sig .tc := ⟨.hbm, 180, rfl⟩
abbrev main_call2_v31 : Ref sig .tc := ⟨.hbm, 181, rfl⟩
abbrev main_call2_v32 : Ref sig .tc := ⟨.hbm, 182, rfl⟩
abbrev main_call2_v33 : Ref sig .tc := ⟨.hbm, 183, rfl⟩
abbrev main_call2_v34 : Ref sig .tc := ⟨.hbm, 184, rfl⟩
abbrev main_call2_v35 : Ref sig .tc := ⟨.hbm, 185, rfl⟩
abbrev main_call2_v36 : Ref sig .tc := ⟨.hbm, 186, rfl⟩
abbrev main_call2_v37 : Ref sig .tc := ⟨.hbm, 187, rfl⟩
abbrev main_call2_v38 : Ref sig .tc := ⟨.hbm, 188, rfl⟩
abbrev main_call2_v39 : Ref sig .tc := ⟨.hbm, 189, rfl⟩
abbrev main_call2_v40 : Ref sig .tc := ⟨.hbm, 190, rfl⟩
abbrev main_call2_v41 : Ref sig .tc := ⟨.hbm, 191, rfl⟩
abbrev main_call2_v42 : Ref sig .tc := ⟨.hbm, 192, rfl⟩
abbrev main_call2_v43 : Ref sig .tc := ⟨.hbm, 193, rfl⟩
abbrev main_call2_v44 : Ref sig .tc := ⟨.hbm, 194, rfl⟩
abbrev main_call2_v45 : Ref sig .tc := ⟨.hbm, 195, rfl⟩
abbrev main_call2_v46 : Ref sig .tc := ⟨.hbm, 196, rfl⟩
abbrev main_call2_v47 : Ref sig .tc := ⟨.hbm, 197, rfl⟩
abbrev main_call2_v48 : Ref sig .tc := ⟨.hbm, 198, rfl⟩
abbrev main_call2_v49 : Ref sig .tc := ⟨.hbm, 199, rfl⟩
abbrev main_call2_v50 : Ref sig .tc := ⟨.hbm, 200, rfl⟩
abbrev main_call2_v51 : Ref sig .tc := ⟨.hbm, 201, rfl⟩
abbrev main_call2_v52 : Ref sig .tc := ⟨.hbm, 202, rfl⟩
abbrev main_call2_v53 : Ref sig .tc := ⟨.hbm, 203, rfl⟩
abbrev main_call2_v54 : Ref sig .tc := ⟨.hbm, 204, rfl⟩
abbrev main_call2_v55 : Ref sig .tc := ⟨.hbm, 205, rfl⟩
abbrev main_call2_v56 : Ref sig .tc := ⟨.hbm, 206, rfl⟩
abbrev main_call2_cst_0 : Ref sig .tc := ⟨.hbm, 207, rfl⟩
abbrev main_call2_v57 : Ref sig .tc := ⟨.hbm, 208, rfl⟩
abbrev main_call2_v58 : Ref sig .tc := ⟨.hbm, 209, rfl⟩
abbrev main_call2_v59 : Ref sig .tc := ⟨.hbm, 210, rfl⟩
abbrev main_call2_v60 : Ref sig .tc := ⟨.hbm, 211, rfl⟩
abbrev main_call2_v61 : Ref sig .tc := ⟨.hbm, 212, rfl⟩
abbrev main_call2_v62 : Ref sig .tc := ⟨.hbm, 213, rfl⟩
abbrev main_call2_v63 : Ref sig .tc := ⟨.hbm, 214, rfl⟩
abbrev main_call2_cst_1 : Ref sig .tc := ⟨.hbm, 215, rfl⟩
abbrev main_call2_v64 : Ref sig .tc := ⟨.hbm, 216, rfl⟩
abbrev main_v3 : Ref sig .tc := ⟨.hbm, 217, rfl⟩

abbrev nD : Nat := 1
abbrev τ : Topo := Topo.v7x

variable {F : FTy → Type} [FloatOps F]
-- ==== Proof.Run.lean ====
/- The whole kernel program's run, and its result's buffer at the last boundary. -/
module

public import proofs.«01_k».proof.Proof.Gen.KernelIdeal.Frame

@[expose] public section

set_option maxRecDepth 16384

noncomputable section

namespace Cert.KernelIdeal.Val

open Idealize.ShloMosaic Idealize.ShloMosaic.TcCoe Idealize.SL.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
/-- The kernel's run: the result's buffer holds what the last boundary says, the arguments are as launched. -/
theorem run : θ_run (defs (F := Ideal)) (onTc (τ := τ) (main (F := Ideal))) ⟨m, fun _ => 0, ρ⟩ (fun r => ∀ c : Dev nD,
      r.2.mem ((c.tc : Thread nD τ).loc main_v219) = W21 m ρ c (Proc.devRef .tc main_v219)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h _ => fun c =>
      ⟨h c _ (mem_uc main_v219 (by decide)), (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c)⟩)

end Cert.KernelIdeal.Val

end
-- ==== Proof.Math.lean ====
/- The mathematics of one convolution layer, apart from any program: an activation is a function of natural
   numbers that is zero outside its rows and columns, a layer is the sum over the nine taps with the batch
   normalisation and the rectifier after it, and the banded product that the kernel takes is that sum. -/
module

public import Idealize.ShloMosaic.Lib.Pointwise
public import Idealize.ShloMosaic.Lib.ValueIdx

@[expose] public section

set_option maxRecDepth 16384

noncomputable section

namespace Cert.Enc

open Idealize.ShloMosaic

/-- An array over batch member, channel, row and column, zero where nothing was stored. -/
abbrev Act := ℕ → ℕ → ℕ → ℕ → EReal

/-- The array with a border of one zero row and column before it. -/
def padA (x : Act) : Act := fun n c Y Q => if 1 ≤ Y ∧ 1 ≤ Q then x n c (Y - 1) (Q - 1) else 0

/-- The nine taps of a stride-two convolution, at one output element. -/
def convSum (C : ℕ) (x : Act) (w : Act) (n d y j : ℕ) : EReal :=
  ∑ kh : Fin 3, ∑ kw : Fin 3, ∑ c : Fin C, padA x n c (2 * y + kh) (2 * j + kw) * w d c kh kw

/-- The divisor of the normalisation. -/
def bnDiv : EReal := ((Real.sqrt (2097173 / 2097152) : ℝ) : EReal)

/-- Scale, divide, shift and rectify. -/
def bn (g s b : EReal) : EReal := max (Ideal.div (g * s) bnDiv + b) 0

/-- One layer: zero outside its `H` rows and `W` columns. -/
def conv (C H W : ℕ) (x w : Act) (g b : ℕ → EReal) : Act := fun n d y j =>
  if y < H ∧ j < W then bn (g d) (convSum C x w n d y j) (b d) else 0

/-- Whether input column `i` is tap `k` of output column `j - sh`. -/
def sel (sh W k i j : ℕ) : EReal := if sh ≤ j ∧ j < W + sh ∧ i = 2 * (j - sh) + k then 1 else 0

/-- The banded weights: row `r` is input column `r / C`, channel `r % C`. -/
def bandW (sh W C : ℕ) (w : Act) (kh r d j : ℕ) : EReal :=
  ∑ k : Fin 3, w d (r % C) kh k * sel sh W k (r / C) j

theorem bnDiv_pos : (0 : ℝ) < Real.sqrt (2097173 / 2097152) := Real.sqrt_pos.2 (by norm_num)

theorem bn_zero (s : EReal) : bn 0 s 0 = 0 := by
  unfold bn bnDiv
  rw [zero_mul, Ideal.div_coe (by exact bnDiv_pos.ne')]
  simp

/-- A band of three columns, summed over the rows of a group that holds it. -/
theorem band_sum (C i0 Wn q : ℕ) (hC : 0 < C) (X : ℕ → ℕ → EReal) (w : ℕ → ℕ → EReal)
    (h0 : i0 ≤ q) (h1 : q + 3 ≤ i0 + Wn) :
    ∑ r : Fin (Wn * C), X ((i0 * C + r) / C) ((i0 * C + r) % C) *
        (∑ k : Fin 3, w ((i0 * C + r) % C) k * (if (i0 * C + r) / C = q + k then 1 else 0))
      = ∑ k : Fin 3, ∑ c : Fin C, X (q + k) c * w c k := by
  let g : ℕ → EReal := fun i => ∑ c : Fin C, X i c * (∑ k : Fin 3, w c k * (if i = q + k then 1 else 0))
  have e1 : ∑ r : Fin (Wn * C), X ((i0 * C + r) / C) ((i0 * C + r) % C) *
        (∑ k : Fin 3, w ((i0 * C + r) % C) k * (if (i0 * C + r) / C = q + k then 1 else 0))
      = ∑ j : Fin Wn, g (i0 + j) := by
    rw [Fin.sum_univ_tiles Wn C rfl]
    refine Finset.sum_congr rfl fun j _ => Finset.sum_congr rfl fun c _ => ?_
    have a : (i0 * C + (j * C + c)) / C = i0 + j := by
      rw [← add_assoc, ← add_mul, add_comm ((i0 + j) * C), Nat.add_mul_div_right _ _ hC,
        Nat.div_eq_of_lt c.2, zero_add]
    have b : (i0 * C + (j * C + c)) % C = c := by
      rw [← add_assoc, ← add_mul, add_comm ((i0 + j) * C), Nat.add_mul_mod_self_right, Nat.mod_eq_of_lt c.2]
    simp only [a, b]
  have e2 : ∀ i, (∀ k : Fin 3, i ≠ q + k) → g i = 0 := fun i hi => by
    refine Finset.sum_eq_zero fun c _ => ?_
    rw [Finset.sum_eq_zero fun k _ => by rw [if_neg (hi k), mul_zero], mul_zero]
  have e3 : ∀ k : Fin 3, g (q + k) = ∑ c : Fin C, X (q + k) c * w c k := fun k => by
    refine Finset.sum_congr rfl fun c _ => ?_
    congr 1
    rw [Finset.sum_eq_single k (fun k' _ hk => by
      rw [if_neg (fun h => hk (Fin.ext (by omega))), mul_zero]) (fun h => absurd (Finset.mem_univ _) h),
      if_pos rfl, mul_one]
  have e4 : ∑ j ∈ Finset.range Wn, g (i0 + j) = ∑ i ∈ Finset.Ico i0 (i0 + Wn), g i := by
    rw [Finset.sum_Ico_eq_sum_range, Nat.add_sub_cancel_left]
  have e5 : ∑ j ∈ Finset.range 3, g (q + j) = ∑ i ∈ Finset.Ico q (q + 3), g i := by
    rw [Finset.sum_Ico_eq_sum_range, Nat.add_sub_cancel_left]
  rw [e1, Fin.sum_univ_eq_sum_range (fun j => g (i0 + j)) Wn, e4, ← Finset.sum_congr rfl fun k _ => e3 k,
    Fin.sum_univ_eq_sum_range (fun j => g (q + j)) 3, e5]
  symm
  refine Finset.sum_subset (Finset.Ico_subset_Ico h0 h1) fun i _ hi => e2 i fun k hk => hi ?_
  rw [Finset.mem_Ico]
  omega

/-- The three products of a row group with the banded weights are the nine taps. -/
theorem lane_sum (sh W C H : ℕ) (x w : Act) (n d y j i0 Wn : ℕ) (hC : 0 < C) (h1 : sh ≤ j) (h2 : j < W + sh)
    (h3 : i0 ≤ 2 * (j - sh)) (h4 : 2 * (j - sh) + 3 ≤ i0 + Wn) :
    (∑ r : Fin (Wn * C), padA x n ((i0 * C + r) % C) (2 * y) ((i0 * C + r) / C) * bandW sh W C w 0 (i0 * C + r) d j)
      + (∑ r : Fin (Wn * C), padA x n ((i0 * C + r) % C) (2 * y + 1) ((i0 * C + r) / C) * bandW sh W C w 1 (i0 * C + r) d j)
      + (∑ r : Fin (Wn * C), padA x n ((i0 * C + r) % C) (2 * y + 2) ((i0 * C + r) / C) * bandW sh W C w 2 (i0 * C + r) d j)
      = convSum C x w n d y (j - sh) := by
  have e : ∀ kh : ℕ, (∑ r : Fin (Wn * C), padA x n ((i0 * C + r) % C) (2 * y + kh) ((i0 * C + r) / C) *
      bandW sh W C w kh (i0 * C + r) d j)
      = ∑ k : Fin 3, ∑ c : Fin C, padA x n c (2 * y + kh) (2 * (j - sh) + k) * w d c kh k := fun kh => by
    rw [← band_sum C i0 Wn (2 * (j - sh)) hC (fun i c => padA x n c (2 * y + kh) i) (fun c k => w d c kh k) h3 h4]
    refine Finset.sum_congr rfl fun r _ => ?_
    unfold bandW sel
    simp only [h1, h2, true_and]
  unfold convSum
  rw [Fin.sum_univ_three, ← e, ← e, ← e]
  rfl

/-- What a lane of an output row holds, padding lanes included: the next layer's padded input. -/
theorem lane_pad (C H W : ℕ) (x w : Act) (g b : ℕ → EReal) (n d y j : ℕ) (gl acc bl : EReal) (hy : y < H)
    (hg : gl = if 1 ≤ j ∧ j < W + 1 then g d else 0) (hb : bl = if 1 ≤ j ∧ j < W + 1 then b d else 0)
    (ha : 1 ≤ j → j < W + 1 → acc = convSum C x w n d y (j - 1)) :
    bn gl acc bl = padA (conv C H W x w g b) n d (y + 1) j := by
  unfold padA conv
  by_cases h : 1 ≤ j ∧ j < W + 1
  · rw [hg, hb, if_pos h, if_pos h, ha h.1 h.2, if_pos ⟨by omega, h.1⟩, if_pos ⟨by omega, by omega⟩]
    rfl
  · rw [hg, hb, if_neg h, if_neg h, bn_zero]
    by_cases h' : 1 ≤ j
    · rw [if_pos ⟨by omega, h'⟩, if_neg (fun e => h ⟨h', by omega⟩)]
    · rw [if_neg (fun e => h' e.2)]

/-- Above its rows a layer is zero. -/
theorem padA_conv_top (C H W : ℕ) (x w : Act) (g b : ℕ → EReal) (n d j : ℕ) :
    padA (conv C H W x w g b) n d (H + 1) j = 0 := by
  unfold padA conv
  split
  · rw [if_neg (by omega)]
  · rfl

/-- Row zero of the padded array. -/
theorem padA_zero (x : Act) (n d j : ℕ) : padA x n d 0 j = 0 := by
  unfold padA
  rw [if_neg (by omega)]

/-- The padded array along one row's lanes: lane `r` is column `r / C`, channel `r % C`. -/
def pl (C : ℕ) (x : Act) (n Y r : ℕ) : EReal := padA x n (r % C) Y (r / C)

/-- A product with a row of a permutation matrix picks one element. -/
theorem perm_read (N k0 : ℕ) (p y : Fin N → EReal) (hk : k0 < N) (h : ∀ k, p k = if (k : ℕ) = k0 then 1 else 0) :
    ∑ k, p k * y k = y ⟨k0, hk⟩ := by
  rw [Finset.sum_eq_single ⟨k0, hk⟩ (fun k _ hne => by
    rw [h, if_neg (fun e => hne (Fin.ext e)), zero_mul]) (fun h => absurd (Finset.mem_univ _) h), h, if_pos rfl,
    one_mul]

/-- The three products of a row group, normalised and rectified, are a lane of the next layer's padded input. -/
theorem row_val {C H W : ℕ} {x w : Act} {g b : ℕ → EReal} {n d y j : ℕ} {gl bl : EReal} {K : ℕ} (i0 Wn : ℕ)
    (hK : K = Wn * C) (hC : 0 < C) (hy : y < H)
    (hg : gl = if 1 ≤ j ∧ j < W + 1 then g d else 0) (hb : bl = if 1 ≤ j ∧ j < W + 1 then b d else 0)
    (h3 : 1 ≤ j → j < W + 1 → i0 ≤ 2 * (j - 1) ∧ 2 * (j - 1) + 3 ≤ i0 + Wn)
    {p0 p1 p2 w0 w1 w2 : Fin K → EReal}
    (e0 : ∀ r : Fin K, p0 r = pl C x n (2 * y) (i0 * C + r))
    (e1 : ∀ r : Fin K, p1 r = pl C x n (2 * y + 1) (i0 * C + r))
    (e2 : ∀ r : Fin K, p2 r = pl C x n (2 * y + 2) (i0 * C + r))
    (f0 : ∀ r : Fin K, w0 r = bandW 1 W C w 0 (i0 * C + r) d j)
    (f1 : ∀ r : Fin K, w1 r = bandW 1 W C w 1 (i0 * C + r) d j)
    (f2 : ∀ r : Fin K, w2 r = bandW 1 W C w 2 (i0 * C + r) d j) :
    max (Ideal.div (gl * ((∑ r, p0 r * w0 r) + (∑ r, p1 r * w1 r) + (∑ r, p2 r * w2 r))) bnDiv + bl) 0
      = padA (conv C H W x w g b) n d (y + 1) j := by
  subst hK
  refine lane_pad C H W x w g b n d y j gl _ bl hy hg hb fun h1 h2 => ?_
  rw [← lane_sum 1 W C H x w n d y j i0 Wn hC h1 h2 (h3 h1 h2).1 (h3 h1 h2).2]
  simp only [e0, e1, e2, f0, f1, f2, pl]

/-- The same for a layer stored without a border. -/
theorem row_val0 {C H W : ℕ} {x w : Act} {g b : ℕ → EReal} {n d y j : ℕ} {gl bl : EReal} {K : ℕ} (Wn : ℕ)
    (hK : K = Wn * C) (hC : 0 < C) (hy : y < H) (hj : j < W) (hg : gl = g d) (hb : bl = b d)
    (h3 : 2 * j + 3 ≤ Wn)
    {p0 p1 p2 w0 w1 w2 : Fin K → EReal}
    (e0 : ∀ r : Fin K, p0 r = pl C x n (2 * y) r)
    (e1 : ∀ r : Fin K, p1 r = pl C x n (2 * y + 1) r)
    (e2 : ∀ r : Fin K, p2 r = pl C x n (2 * y + 2) r)
    (f0 : ∀ r : Fin K, w0 r = bandW 0 W C w 0 r d j)
    (f1 : ∀ r : Fin K, w1 r = bandW 0 W C w 1 r d j)
    (f2 : ∀ r : Fin K, w2 r = bandW 0 W C w 2 r d j) :
    max (Ideal.div (gl * ((∑ r, p0 r * w0 r) + (∑ r, p1 r * w1 r) + (∑ r, p2 r * w2 r))) bnDiv + bl) 0
      = conv C H W x w g b n d y j := by
  subst hK
  unfold conv
  rw [if_pos ⟨hy, hj⟩, hg, hb]
  have := lane_sum 0 W C H x w n d y j 0 Wn hC (by omega) (by omega) (by omega) (by omega)
  simp only [Nat.zero_mul, Nat.zero_add, Nat.sub_zero] at this
  unfold bn
  rw [← this]
  simp only [e0, e1, e2, f0, f1, f2, pl]

/-- The row of a layer that output row `r` of the kernel's permutation takes: even rows, then odd ones. -/
def evenOdd (N r : ℕ) : ℕ := if r < N / 2 then 2 * r else 2 * r - N + 1

theorem perm_row (N q : ℕ) {r : ℕ} {p : Fin N → EReal} (y : Fin N → EReal)
    (h : ∀ k : Fin N, p k = if (k : ℕ) = evenOdd N r then 1 else 0) (hq : q < N) (hr : evenOdd N r = q) :
    ∑ k, p k * y k = y ⟨q, hq⟩ :=
  perm_read N q p y hq fun k => by rw [h, hr]

/-- A banded weight of a group of columns, written with the lane's own number. -/
theorem band_lane (C W D : ℕ) (w : Act) (off a k s' : ℕ) {r s : ℕ} (h : off + s' = s) :
    bandW 1 W C w k (a + r) ((off + s') % D) ((off + s') / D) = bandW 1 W C w k (a + r) (s % D) (s / D) := by
  rw [h]

end Cert.Enc

end
-- ==== Proof.Region0.lean ====
/- What the first convolution kernel leaves in its two output blocks: the even and the odd rows of the next
   layer's padded input, when its input blocks hold those of this layer's. -/
module

public import proofs.«01_k».proof.Proof.Gen.KernelIdeal.Frame
public import proofs.«01_k».proof.Proof.Math
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen Cert.Enc

set_option maxHeartbeats 1000000

/-- The normalisation's named divisor, at its ideal value. -/
theorem named_bn : (Named.named κ "bn" 0x3F80002A#32 : Ideal .f32) = bnDiv :=
  IdealRules.named_const.ideal_named_scalar _ _ _ _ rfl

section
variable (x0 x1 : Vec Ideal S1x513x82 .bf16) (x2 : Vec Ideal S3x82x1344 .bf16) (x3 x4 : Vec Ideal S1x1344 .f32)
  (x5 : Vec Ideal S256x256 .bf16) (X w : Act) (n : ℕ) (g b : ℕ → EReal)

theorem out0_6_at
    (h0 : ∀ (u : Fin 513) (r : Fin 82), (x0 (ix3 0 u r) : EReal) = pl 1 X n (2 * u) r)
    (h1 : ∀ (u : Fin 513) (r : Fin 82), (x1 (ix3 0 u r) : EReal) = pl 1 X n (2 * u + 1) r)
    (h2 : ∀ (k : Fin 3) (r : Fin 82) (s : Fin 1344), (x2 (ix3 k r s) : EReal) = bandW 1 40 1 w k r (s % 32) (s / 32))
    (h3 : ∀ s : Fin 1344, (x3 (ix2 0 s) : EReal) = if 1 ≤ (s : ℕ) / 32 ∧ (s : ℕ) / 32 < 40 + 1 then g (s % 32) else 0)
    (h4 : ∀ s : Fin 1344, (x4 (ix2 0 s) : EReal) = if 1 ≤ (s : ℕ) / 32 ∧ (s : ℕ) / 32 < 40 + 1 then b (s % 32) else 0)
    (h5 : ∀ r c : Fin 256, (x5 (ix2 r c) : EReal) = if (c : ℕ) = evenOdd 256 r then 1 else 0)
    (u : Fin 257) (s : Fin 1344) :
    (out0_6 (F := Ideal) x0 x1 x2 x3 x4 x5 (ix3 0 u s) : EReal) = pl 32 (conv 1 512 40 X w g b) n (2 * u) s := by
  have hs := s.2
  have hu := u.2
  unfold_out out0_6
  rw [View.canon_unit_zero (by funext a; fin_cases a <;> rfl)]
  pointwise [k0_pay3, k0_pay10, k0_pay8, k0_pay1, k0_pay2, k0_pay5, k0_pay6, k0_pay7, k0_pay11]
  rw [named_bn]
  split
  · rw [show 2 * (u : ℕ) = 0 by omega, pl, padA_zero]
  · split
    · rw [perm_row 256 (2 * u - 1) (r := 128 + (u - 1)) _ (fun k => h5 _ k) (by omega) (by unfold evenOdd; split <;> omega)]
      refine (row_val (K := 82) (C := 1) (H := 512) (W := 40) (x := X) (w := w) (n := n) (y := 2 * u - 1) 0 82 rfl (by norm_num) (by omega) (h3 s) (h4 s) (by omega)
        (fun r => (h0 _ _).trans (congrArg₂ (pl 1 X n) (by simp) (by simp)))
        (fun r => (h1 _ _).trans (congrArg₂ (pl 1 X n) (by simp) (by simp)))
        (fun r => (h0 _ _).trans (congrArg₂ (pl 1 X n) (by simp; omega) (by simp)))
        (fun r => (h2 _ _ _).trans (by simp)) (fun r => (h2 _ _ _).trans (by simp)) (fun r => (h2 _ _ _).trans (by simp))).trans ?_
      rw [pl, show 2 * (u : ℕ) - 1 + 1 = 2 * u by omega]
    · rw [perm_row 256 (2 * u - 257) (r := 128 + (u - 1 - 128)) _ (fun k => h5 _ k) (by omega) (by unfold evenOdd; split <;> omega)]
      refine (row_val (K := 82) (C := 1) (H := 512) (W := 40) (x := X) (w := w) (n := n) (y := 2 * u - 1) 0 82 rfl (by norm_num) (by omega) (h3 s) (h4 s) (by omega)
        (fun r => (h0 _ _).trans (congrArg₂ (pl 1 X n) (by simp; omega) (by simp)))
        (fun r => (h1 _ _).trans (congrArg₂ (pl 1 X n) (by simp; omega) (by simp)))
        (fun r => (h0 _ _).trans (congrArg₂ (pl 1 X n) (by simp; omega) (by simp)))
        (fun r => (h2 _ _ _).trans (by simp)) (fun r => (h2 _ _ _).trans (by simp)) (fun r => (h2 _ _ _).trans (by simp))).trans ?_
      rw [pl, show 2 * (u : ℕ) - 1 + 1 = 2 * u by omega]

theorem out0_7_at
    (h0 : ∀ (u : Fin 513) (r : Fin 82), (x0 (ix3 0 u r) : EReal) = pl 1 X n (2 * u) r)
    (h1 : ∀ (u : Fin 513) (r : Fin 82), (x1 (ix3 0 u r) : EReal) = pl 1 X n (2 * u + 1) r)
    (h2 : ∀ (k : Fin 3) (r : Fin 82) (s : Fin 1344), (x2 (ix3 k r s) : EReal) = bandW 1 40 1 w k r (s % 32) (s / 32))
    (h3 : ∀ s : Fin 1344, (x3 (ix2 0 s) : EReal) = if 1 ≤ (s : ℕ) / 32 ∧ (s : ℕ) / 32 < 40 + 1 then g (s % 32) else 0)
    (h4 : ∀ s : Fin 1344, (x4 (ix2 0 s) : EReal) = if 1 ≤ (s : ℕ) / 32 ∧ (s : ℕ) / 32 < 40 + 1 then b (s % 32) else 0)
    (h5 : ∀ r c : Fin 256, (x5 (ix2 r c) : EReal) = if (c : ℕ) = evenOdd 256 r then 1 else 0)
    (u : Fin 257) (s : Fin 1344) :
    (out0_7 (F := Ideal) x0 x1 x2 x3 x4 x5 (ix3 0 u s) : EReal) = pl 32 (conv 1 512 40 X w g b) n (2 * u + 1) s := by
  have hs := s.2
  have hu := u.2
  unfold_out out0_7
  rw [View.canon_unit_zero (by funext a; fin_cases a <;> rfl)]
  pointwise [k0_pay4, k0_pay9, k0_pay8, k0_pay1, k0_pay2, k0_pay5, k0_pay6, k0_pay7, k0_pay11]
  rw [named_bn]
  split
  · rw [perm_row 256 (2 * u) (r := u) _ (fun k => h5 _ k) (by omega) (by unfold evenOdd; split <;> omega)]
    exact row_val (K := 82) (C := 1) (H := 512) (W := 40) (x := X) (w := w) (n := n) (y := 2 * u) 0 82 rfl (by norm_num) (by omega) (h3 s) (h4 s) (by omega)
      (fun r => (h0 _ _).trans (congrArg₂ (pl 1 X n) (by simp) (by simp)))
      (fun r => (h1 _ _).trans (congrArg₂ (pl 1 X n) (by simp) (by simp)))
      (fun r => (h0 _ _).trans (congrArg₂ (pl 1 X n) (by simp; omega) (by simp)))
      (fun r => (h2 _ _ _).trans (by simp)) (fun r => (h2 _ _ _).trans (by simp)) (fun r => (h2 _ _ _).trans (by simp))
  · split
    · rw [perm_row 256 (2 * u - 256) (r := u - 128) _ (fun k => h5 _ k) (by omega) (by unfold evenOdd; split <;> omega)]
      exact row_val (K := 82) (C := 1) (H := 512) (W := 40) (x := X) (w := w) (n := n) (y := 2 * u) 0 82 rfl (by norm_num) (by omega) (h3 s) (h4 s) (by omega)
        (fun r => (h0 _ _).trans (congrArg₂ (pl 1 X n) (by simp; omega) (by simp)))
        (fun r => (h1 _ _).trans (congrArg₂ (pl 1 X n) (by simp; omega) (by simp)))
        (fun r => (h0 _ _).trans (congrArg₂ (pl 1 X n) (by simp; omega) (by simp)))
        (fun r => (h2 _ _ _).trans (by simp)) (fun r => (h2 _ _ _).trans (by simp)) (fun r => (h2 _ _ _).trans (by simp))
    · rw [pl, show 2 * (u : ℕ) + 1 = 512 + 1 by omega, padA_conv_top]

end

end Cert.KernelIdeal.Val

end
-- ==== Proof.Arr0.lean ====
/- The first convolution kernel's two output arrays, from its input arrays. -/
module

public import proofs.«01_k».proof.Proof.Region0
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Enc

set_option maxHeartbeats 1000000

theorem idx0 : ∀ t : Fin cfg0.N, win0_0.index t = ![t.val, 0, 0] ∧ win0_1.index t = ![t.val, 0, 0] ∧ win0_2.index t = ![0, 0, 0] ∧
    win0_3.index t = ![0, 0] ∧ win0_4.index t = ![0, 0] ∧ win0_5.index t = ![0, 0] ∧
    win0_6.index t = ![t.val, 0, 0] ∧ win0_7.index t = ![t.val, 0, 0] :=
  (by decide +kernel : ∀ t : Fin grid0.N, _)

section
variable (V : (c : Dev nD) → (b : Ref sig .tc) → Buf (Elt Ideal) ((c : Thread nD τ).loc b)) (c : Dev nD) (X w : Act) (g b : ℕ → EReal)
  (h0 : ∀ (n : Fin 32) (u : Fin 513) (r : Fin 82), (V c main_v2 (ix3 n u r) : EReal) = pl 1 X n (2 * u) r)
  (h1 : ∀ (n : Fin 32) (u : Fin 513) (r : Fin 82), (V c main_v3 (ix3 n u r) : EReal) = pl 1 X n (2 * u + 1) r)
  (h2 : ∀ (k : Fin 3) (r : Fin 82) (s : Fin 1344), (V c main_v41 (ix3 k r s) : EReal) = bandW 1 40 1 w k r (s % 32) (s / 32))
  (h3 : ∀ s : Fin 1344, (V c main_v52 (ix2 0 s) : EReal) = if 1 ≤ (s : ℕ) / 32 ∧ (s : ℕ) / 32 < 40 + 1 then g (s % 32) else 0)
  (h4 : ∀ s : Fin 1344, (V c main_v53 (ix2 0 s) : EReal) = if 1 ≤ (s : ℕ) / 32 ∧ (s : ℕ) / 32 < 40 + 1 then b (s % 32) else 0)
  (h5 : ∀ r c' : Fin 256, (V c main_v69 (ix2 r c') : EReal) = (if (c' : ℕ) = evenOdd 256 r then 1 else 0 : EReal))

include h0 h1 h2 h3 h4 h5

theorem arr0_6 (n : Fin 32) (u : Fin 257) (s : Fin 1344) :
    ((dat0 V c).arrAt 6 cfg0.N (ix3 n u s) : EReal) = pl 32 (conv 1 512 40 X w g b) n (2 * u) s := by
  refine (dat0 V c).arrAt_forall_of_covers 6 (fun (i : S32x257x1344.Idx) (v : EReal) =>
    v = pl 32 (conv 1 512 40 X w g b) (i 0 : Fin 32) (2 * (i 1 : Fin 257).val) (i 2 : Fin 1344)) (by decide +kernel) (fun t hf y => ?_) (ix3 n u s)
  blk_simp [idx0 t]
  rw [after0_6]
  have e : y = ix3 (0 : Fin 1) (y 1 : Fin 257) (y 2 : Fin 1344) := by
    funext a
    match a with
    | ⟨0, _⟩ => exact Subsingleton.elim (α := Fin 1) _ _
    | ⟨1, _⟩ => rfl
    | ⟨2, _⟩ => rfl
  refine (congrArg _ e).trans ?_
  refine out0_6_at _ _ _ _ _ _ X w t g b ?_ ?_ ?_ ?_ ?_ ?_ (y 1) (y 2)
  · intro u r
    refine Eq.trans ?_ (h0 ⟨t, t.2⟩ u r)
    blk_ext [iblk0, idx0 t]
  · intro u r
    refine Eq.trans ?_ (h1 ⟨t, t.2⟩ u r)
    blk_ext [iblk0, idx0 t]
  · intro k r s
    refine Eq.trans ?_ (h2 k r s)
    blk_ext [iblk0, idx0 t]
  · intro s
    refine Eq.trans ?_ (h3 s)
    blk_ext [iblk0, idx0 t]
  · intro s
    refine Eq.trans ?_ (h4 s)
    blk_ext [iblk0, idx0 t]
  · intro r c'
    refine Eq.trans ?_ (h5 r c')
    blk_ext [iblk0, idx0 t]

theorem arr0_7 (n : Fin 32) (u : Fin 257) (s : Fin 1344) :
    ((dat0 V c).arrAt 7 cfg0.N (ix3 n u s) : EReal) = pl 32 (conv 1 512 40 X w g b) n (2 * u + 1) s := by
  refine (dat0 V c).arrAt_forall_of_covers 7 (fun (i : S32x257x1344.Idx) (v : EReal) =>
    v = pl 32 (conv 1 512 40 X w g b) (i 0 : Fin 32) (2 * (i 1 : Fin 257).val + 1) (i 2 : Fin 1344)) (by decide +kernel) (fun t hf y => ?_) (ix3 n u s)
  blk_simp [idx0 t]
  rw [after0_7]
  have e : y = ix3 (0 : Fin 1) (y 1 : Fin 257) (y 2 : Fin 1344) := by
    funext a
    match a with
    | ⟨0, _⟩ => exact Subsingleton.elim (α := Fin 1) _ _
    | ⟨1, _⟩ => rfl
    | ⟨2, _⟩ => rfl
  refine (congrArg _ e).trans ?_
  refine out0_7_at _ _ _ _ _ _ X w t g b ?_ ?_ ?_ ?_ ?_ ?_ (y 1) (y 2)
  · intro u r
    refine Eq.trans ?_ (h0 ⟨t, t.2⟩ u r)
    blk_ext [iblk0, idx0 t]
  · intro u r
    refine Eq.trans ?_ (h1 ⟨t, t.2⟩ u r)
    blk_ext [iblk0, idx0 t]
  · intro k r s
    refine Eq.trans ?_ (h2 k r s)
    blk_ext [iblk0, idx0 t]
  · intro s
    refine Eq.trans ?_ (h3 s)
    blk_ext [iblk0, idx0 t]
  · intro s
    refine Eq.trans ?_ (h4 s)
    blk_ext [iblk0, idx0 t]
  · intro r c'
    refine Eq.trans ?_ (h5 r c')
    blk_ext [iblk0, idx0 t]

end

end Cert.KernelIdeal.Val

end
-- ==== Proof.Region1.lean ====
/- What the second convolution kernel leaves in its two output blocks: the even and the odd rows of the next
   layer's padded input, when its input blocks hold those of this layer's. The weights come in three groups of
   columns, each with the rows that its columns reach. -/
module

public import proofs.«01_k».proof.Proof.Region0

@[expose] public section

set_option maxRecDepth 16384

noncomputable section

namespace Cert.KernelIdeal.Val

open Idealize.ShloMosaic Idealize.ShloMosaic.TcCoe Idealize.SL.Sem
open Cert.KernelIdeal Cert.KernelIdeal.Gen Cert.Enc

set_option maxHeartbeats 1000000

section
variable (x0 x1 : Vec Ideal S1x257x1344 .bf16) (x2 : Vec Ideal S3x512x256 .bf16) (x3 : Vec Ideal S3x640x256 .bf16)
  (x4 : Vec Ideal S3x448x192 .bf16) (x5 x6 : Vec Ideal S1x704 .f32) (x7 : Vec Ideal S256x256 .bf16)
  (X w : Act) (n : ℕ) (g b : ℕ → EReal)
  (h0 : ∀ (u : Fin 257) (r : Fin 1344), (x0 (ix3 0 u r) : EReal) = pl 32 X n (2 * u) r)
  (h1 : ∀ (u : Fin 257) (r : Fin 1344), (x1 (ix3 0 u r) : EReal) = pl 32 X n (2 * u + 1) r)
  (h2 : ∀ (k : Fin 3) (r : Fin 512) (s : Fin 256), (x2 (ix3 k r s) : EReal) =
    bandW 1 20 32 w k (0 + r) ((0 + s) % 32) ((0 + s) / 32))
  (h3 : ∀ (k : Fin 3) (r : Fin 640) (s : Fin 256), (x3 (ix3 k r s) : EReal) =
    bandW 1 20 32 w k (384 + r) ((256 + s) % 32) ((256 + s) / 32))
  (h4 : ∀ (k : Fin 3) (r : Fin 448) (s : Fin 192), (x4 (ix3 k r s) : EReal) =
    bandW 1 20 32 w k (896 + r) ((512 + s) % 32) ((512 + s) / 32))
  (h5 : ∀ s : Fin 704, (x5 (ix2 0 s) : EReal) = if 1 ≤ (s : ℕ) / 32 ∧ (s : ℕ) / 32 < 20 + 1 then g (s % 32) else 0)
  (h6 : ∀ s : Fin 704, (x6 (ix2 0 s) : EReal) = if 1 ≤ (s : ℕ) / 32 ∧ (s : ℕ) / 32 < 20 + 1 then b (s % 32) else 0)
  (h7 : ∀ r c : Fin 256, (x7 (ix2 r c) : EReal) = if (c : ℕ) = evenOdd 256 r then 1 else 0)

include h0 h1 h2 h3 h4 h5 h6 h7

theorem k1_pay10_at (r : Fin 256) (s : Fin 704) :
    (k1_pay10 (F := Ideal) x0 x1 x2 x3 x4 x5 x6 x7 (ix2 r s) : EReal)
      = pl 32 (conv 32 256 20 X w g b) n (evenOdd 256 r + 1) s := by
  have hs := s.2
  have hr := r.2
  unfold k1_pay10
  pointwise [k1_pay9, k1_pay8, k1_pay7, k1_pay6, k1_pay5, k1_pay4]
  rw [named_bn]
  rw [perm_row 256 (evenOdd 256 r) (r := r) _ (fun k => h7 _ k) (by unfold evenOdd; split <;> omega) rfl]
  split
  · exact row_val (K := 512) (C := 32) (H := 256) (W := 20) (x := X) (w := w) (n := n) (y := evenOdd 256 r) 0 16 rfl (by norm_num) (by unfold evenOdd; split <;> omega)
      (h5 _) (h6 _) (by omega)
      (fun r => (h0 _ _).trans (congrArg₂ (pl 32 X n) (by simp) (by simp)))
      (fun r => (h1 _ _).trans (congrArg₂ (pl 32 X n) (by simp) (by simp)))
      (fun r => (h0 _ _).trans (congrArg₂ (pl 32 X n) (by simp; omega) (by simp)))
      (fun r => (h2 _ _ _).trans (band_lane 32 20 32 w 0 0 _ _ (by first | omega | (dsimp only; omega)))) (fun r => (h2 _ _ _).trans (band_lane 32 20 32 w 0 0 _ _ (by first | omega | (dsimp only; omega))))
      (fun r => (h2 _ _ _).trans (band_lane 32 20 32 w 0 0 _ _ (by first | omega | (dsimp only; omega))))
  split
  · have e : ∀ h, (⟨256 + (s - 256), h⟩ : Fin 704) = s := fun _ => Fin.ext (by dsimp only; omega)
    rw [e]
    exact row_val (K := 640) (C := 32) (H := 256) (W := 20) (x := X) (w := w) (n := n) (y := evenOdd 256 r) 12 20 rfl (by norm_num) (by unfold evenOdd; split <;> omega)
      (h5 _) (h6 _) (by omega)
      (fun r => (h0 _ _).trans (congrArg₂ (pl 32 X n) (by simp) (by simp)))
      (fun r => (h1 _ _).trans (congrArg₂ (pl 32 X n) (by simp) (by simp)))
      (fun r => (h0 _ _).trans (congrArg₂ (pl 32 X n) (by simp; omega) (by simp)))
      (fun r => (h3 _ _ _).trans (band_lane 32 20 32 w 256 384 _ _ (by first | omega | (dsimp only; omega)))) (fun r => (h3 _ _ _).trans (band_lane 32 20 32 w 256 384 _ _ (by first | omega | (dsimp only; omega))))
      (fun r => (h3 _ _ _).trans (band_lane 32 20 32 w 256 384 _ _ (by first | omega | (dsimp only; omega))))
  · have e : ∀ h, (⟨512 + (s - 256 - 256), h⟩ : Fin 704) = s := fun _ => Fin.ext (by dsimp only; omega)
    rw [e]
    exact row_val (K := 448) (C := 32) (H := 256) (W := 20) (x := X) (w := w) (n := n) (y := evenOdd 256 r) 28 14 rfl (by norm_num) (by unfold evenOdd; split <;> omega)
      (h5 _) (h6 _) (by omega)
      (fun r => (h0 _ _).trans (congrArg₂ (pl 32 X n) (by simp) (by simp)))
      (fun r => (h1 _ _).trans (congrArg₂ (pl 32 X n) (by simp) (by simp)))
      (fun r => (h0 _ _).trans (congrArg₂ (pl 32 X n) (by simp; omega) (by simp)))
      (fun r => (h4 _ _ _).trans (band_lane 32 20 32 w 512 896 _ _ (by first | omega | (dsimp only; omega)))) (fun r => (h4 _ _ _).trans (band_lane 32 20 32 w 512 896 _ _ (by first | omega | (dsimp only; omega))))
      (fun r => (h4 _ _ _).trans (band_lane 32 20 32 w 512 896 _ _ (by first | omega | (dsimp only; omega))))

theorem out1_8_at (u : Fin 129) (s : Fin 704) :
    (out1_8 (F := Ideal) x0 x1 x2 x3 x4 x5 x6 x7 (ix3 0 u s) : EReal)
      = pl 32 (conv 32 256 20 X w g b) n (2 * u) s := by
  have hu := u.2
  unfold out1_8
  rw [View.canon_unit_zero (by funext a; fin_cases a <;> rfl)]
  pointwise [k1_pay2, k1_pay1]
  split
  · rw [show 2 * (u : ℕ) = 0 by omega, pl, padA_zero]
  · rw [k1_pay10_at x0 x1 x2 x3 x4 x5 x6 x7 X w n g b h0 h1 h2 h3 h4 h5 h6 h7]
    congr 1
    dsimp only [evenOdd]
    split <;> omega

theorem out1_9_at (u : Fin 129) (s : Fin 704) :
    (out1_9 (F := Ideal) x0 x1 x2 x3 x4 x5 x6 x7 (ix3 0 u s) : EReal)
      = pl 32 (conv 32 256 20 X w g b) n (2 * u + 1) s := by
  have hu := u.2
  unfold out1_9
  rw [View.canon_unit_zero (by funext a; fin_cases a <;> rfl)]
  pointwise [k1_pay3, k1_pay1]
  split
  · rw [k1_pay10_at x0 x1 x2 x3 x4 x5 x6 x7 X w n g b h0 h1 h2 h3 h4 h5 h6 h7]
    congr 1
    dsimp only [evenOdd]
    split <;> omega
  · rw [pl, show 2 * (u : ℕ) + 1 = 256 + 1 by omega, padA_conv_top]

end

end Cert.KernelIdeal.Val

end
-- ==== Proof.Arr1.lean ====
/- The second convolution kernel's two output arrays, from its input arrays. -/
module

public import proofs.«01_k».proof.Proof.Region1
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Enc

set_option maxHeartbeats 1000000

theorem idx1 : ∀ t : Fin cfg1.N, win1_0.index t = ![t.val, 0, 0] ∧ win1_1.index t = ![t.val, 0, 0] ∧ win1_2.index t = ![0, 0, 0] ∧
    win1_3.index t = ![0, 0, 0] ∧ win1_4.index t = ![0, 0, 0] ∧ win1_5.index t = ![0, 0] ∧
    win1_6.index t = ![0, 0] ∧ win1_7.index t = ![0, 0] ∧ win1_8.index t = ![t.val, 0, 0] ∧
    win1_9.index t = ![t.val, 0, 0] :=
  (by decide +kernel : ∀ t : Fin grid1.N, _)

section
variable (V : (c : Dev nD) → (b : Ref sig .tc) → Buf (Elt Ideal) ((c : Thread nD τ).loc b)) (c : Dev nD) (X w : Act) (g b : ℕ → EReal)
  (h0 : ∀ (n : Fin 32) (u : Fin 257) (r : Fin 1344), (V c main_v70_0 (ix3 n u r) : EReal) = pl 32 X n (2 * u) r)
  (h1 : ∀ (n : Fin 32) (u : Fin 257) (r : Fin 1344), (V c main_v70_1 (ix3 n u r) : EReal) = pl 32 X n (2 * u + 1) r)
  (h2 : ∀ (k : Fin 3) (r : Fin 512) (s : Fin 256), (V c main_v137 (ix3 k r s) : EReal) = bandW 1 20 32 w k (0 + r) ((0 + s) % 32) ((0 + s) / 32))
  (h3 : ∀ (k : Fin 3) (r : Fin 640) (s : Fin 256), (V c main_v138 (ix3 k r s) : EReal) = bandW 1 20 32 w k (384 + r) ((256 + s) % 32) ((256 + s) / 32))
  (h4 : ∀ (k : Fin 3) (r : Fin 448) (s : Fin 192), (V c main_v139 (ix3 k r s) : EReal) = bandW 1 20 32 w k (896 + r) ((512 + s) % 32) ((512 + s) / 32))
  (h5 : ∀ s : Fin 704, (V c main_v119 (ix2 0 s) : EReal) = if 1 ≤ (s : ℕ) / 32 ∧ (s : ℕ) / 32 < 20 + 1 then g (s % 32) else 0)
  (h6 : ∀ s : Fin 704, (V c main_v120 (ix2 0 s) : EReal) = if 1 ≤ (s : ℕ) / 32 ∧ (s : ℕ) / 32 < 20 + 1 then b (s % 32) else 0)
  (h7 : ∀ r c' : Fin 256, (V c main_v136 (ix2 r c') : EReal) = (if (c' : ℕ) = evenOdd 256 r then 1 else 0 : EReal))

include h0 h1 h2 h3 h4 h5 h6 h7

theorem arr1_8 (n : Fin 32) (u : Fin 129) (s : Fin 704) :
    ((dat1 V c).arrAt 8 cfg1.N (ix3 n u s) : EReal) = pl 32 (conv 32 256 20 X w g b) n (2 * u) s := by
  refine (dat1 V c).arrAt_forall_of_covers 8 (fun (i : S32x129x704.Idx) (v : EReal) =>
    v = pl 32 (conv 32 256 20 X w g b) (i 0 : Fin 32) (2 * (i 1 : Fin 129).val) (i 2 : Fin 704)) (by decide +kernel) (fun t hf y => ?_) (ix3 n u s)
  blk_simp [idx1 t]
  rw [after1_8]
  have e : y = ix3 (0 : Fin 1) (y 1 : Fin 129) (y 2 : Fin 704) := by
    funext a
    match a with
    | ⟨0, _⟩ => exact Subsingleton.elim (α := Fin 1) _ _
    | ⟨1, _⟩ => rfl
    | ⟨2, _⟩ => rfl
  refine (congrArg _ e).trans ?_
  refine out1_8_at _ _ _ _ _ _ _ _ X w t g b ?_ ?_ ?_ ?_ ?_ ?_ ?_ ?_ (y 1) (y 2)
  · intro u r
    refine Eq.trans ?_ (h0 ⟨t, t.2⟩ u r)
    blk_ext [iblk1, idx1 t]
  · intro u r
    refine Eq.trans ?_ (h1 ⟨t, t.2⟩ u r)
    blk_ext [iblk1, idx1 t]
  · intro k r s
    refine Eq.trans ?_ (h2 k r s)
    blk_ext [iblk1, idx1 t]
  · intro k r s
    refine Eq.trans ?_ (h3 k r s)
    blk_ext [iblk1, idx1 t]
  · intro k r s
    refine Eq.trans ?_ (h4 k r s)
    blk_ext [iblk1, idx1 t]
  · intro s
    refine Eq.trans ?_ (h5 s)
    blk_ext [iblk1, idx1 t]
  · intro s
    refine Eq.trans ?_ (h6 s)
    blk_ext [iblk1, idx1 t]
  · intro r c'
    refine Eq.trans ?_ (h7 r c')
    blk_ext [iblk1, idx1 t]

theorem arr1_9 (n : Fin 32) (u : Fin 129) (s : Fin 704) :
    ((dat1 V c).arrAt 9 cfg1.N (ix3 n u s) : EReal) = pl 32 (conv 32 256 20 X w g b) n (2 * u + 1) s := by
  refine (dat1 V c).arrAt_forall_of_covers 9 (fun (i : S32x129x704.Idx) (v : EReal) =>
    v = pl 32 (conv 32 256 20 X w g b) (i 0 : Fin 32) (2 * (i 1 : Fin 129).val + 1) (i 2 : Fin 704)) (by decide +kernel) (fun t hf y => ?_) (ix3 n u s)
  blk_simp [idx1 t]
  rw [after1_9]
  have e : y = ix3 (0 : Fin 1) (y 1 : Fin 129) (y 2 : Fin 704) := by
    funext a
    match a with
    | ⟨0, _⟩ => exact Subsingleton.elim (α := Fin 1) _ _
    | ⟨1, _⟩ => rfl
    | ⟨2, _⟩ => rfl
  refine (congrArg _ e).trans ?_
  refine out1_9_at _ _ _ _ _ _ _ _ X w t g b ?_ ?_ ?_ ?_ ?_ ?_ ?_ ?_ (y 1) (y 2)
  · intro u r
    refine Eq.trans ?_ (h0 ⟨t, t.2⟩ u r)
    blk_ext [iblk1, idx1 t]
  · intro u r
    refine Eq.trans ?_ (h1 ⟨t, t.2⟩ u r)
    blk_ext [iblk1, idx1 t]
  · intro k r s
    refine Eq.trans ?_ (h2 k r s)
    blk_ext [iblk1, idx1 t]
  · intro k r s
    refine Eq.trans ?_ (h3 k r s)
    blk_ext [iblk1, idx1 t]
  · intro k r s
    refine Eq.trans ?_ (h4 k r s)
    blk_ext [iblk1, idx1 t]
  · intro s
    refine Eq.trans ?_ (h5 s)
    blk_ext [iblk1, idx1 t]
  · intro s
    refine Eq.trans ?_ (h6 s)
    blk_ext [iblk1, idx1 t]
  · intro r c'
    refine Eq.trans ?_ (h7 r c')
    blk_ext [iblk1, idx1 t]

end

end Cert.KernelIdeal.Val

end
-- ==== Proof.Region2.lean ====
/- What the third convolution kernel leaves in its two output blocks: the even and the odd rows of the next
   layer's padded input, when its input blocks hold those of this layer's. The weights come in three groups of
   columns, each with the rows that its columns reach. -/
module

public import proofs.«01_k».proof.Proof.Region0

@[expose] public section

set_option maxRecDepth 16384

noncomputable section

namespace Cert.KernelIdeal.Val

open Idealize.ShloMosaic Idealize.ShloMosaic.TcCoe Idealize.SL.Sem
open Cert.KernelIdeal Cert.KernelIdeal.Gen Cert.Enc

set_option maxHeartbeats 1000000

section
variable (x0 x1 : Vec Ideal S1x129x704 .bf16) (x2 : Vec Ideal S3x256x256 .bf16) (x3 : Vec Ideal S3x384x256 .bf16)
  (x4 : Vec Ideal S3x320x256 .bf16) (x5 x6 : Vec Ideal S1x768 .f32) (x7 : Vec Ideal S128x128 .bf16)
  (X w : Act) (n : ℕ) (g b : ℕ → EReal)
  (h0 : ∀ (u : Fin 129) (r : Fin 704), (x0 (ix3 0 u r) : EReal) = pl 32 X n (2 * u) r)
  (h1 : ∀ (u : Fin 129) (r : Fin 704), (x1 (ix3 0 u r) : EReal) = pl 32 X n (2 * u + 1) r)
  (h2 : ∀ (k : Fin 3) (r : Fin 256) (s : Fin 256), (x2 (ix3 k r s) : EReal) =
    bandW 1 10 32 w k (0 + r) ((0 + s) % 64) ((0 + s) / 64))
  (h3 : ∀ (k : Fin 3) (r : Fin 384) (s : Fin 256), (x3 (ix3 k r s) : EReal) =
    bandW 1 10 32 w k (128 + r) ((256 + s) % 64) ((256 + s) / 64))
  (h4 : ∀ (k : Fin 3) (r : Fin 320) (s : Fin 256), (x4 (ix3 k r s) : EReal) =
    bandW 1 10 32 w k (384 + r) ((512 + s) % 64) ((512 + s) / 64))
  (h5 : ∀ s : Fin 768, (x5 (ix2 0 s) : EReal) = if 1 ≤ (s : ℕ) / 64 ∧ (s : ℕ) / 64 < 10 + 1 then g (s % 64) else 0)
  (h6 : ∀ s : Fin 768, (x6 (ix2 0 s) : EReal) = if 1 ≤ (s : ℕ) / 64 ∧ (s : ℕ) / 64 < 10 + 1 then b (s % 64) else 0)
  (h7 : ∀ r c : Fin 128, (x7 (ix2 r c) : EReal) = if (c : ℕ) = evenOdd 128 r then 1 else 0)

include h0 h1 h2 h3 h4 h5 h6 h7

theorem k2_pay10_at (r : Fin 128) (s : Fin 768) :
    (k2_pay10 (F := Ideal) x0 x1 x2 x3 x4 x5 x6 x7 (ix2 r s) : EReal)
      = pl 64 (conv 32 128 10 X w g b) n (evenOdd 128 r + 1) s := by
  have hs := s.2
  have hr := r.2
  unfold k2_pay10
  pointwise [k2_pay9, k2_pay8, k2_pay7, k2_pay6, k2_pay5, k2_pay4]
  rw [named_bn]
  rw [perm_row 128 (evenOdd 128 r) (r := r) _ (fun k => h7 _ k) (by unfold evenOdd; split <;> omega) rfl]
  split
  · exact row_val (K := 256) (C := 32) (H := 128) (W := 10) (x := X) (w := w) (n := n) (y := evenOdd 128 r) 0 8 rfl (by norm_num) (by unfold evenOdd; split <;> omega)
      (h5 _) (h6 _) (by omega)
      (fun r => (h0 _ _).trans (congrArg₂ (pl 32 X n) (by simp) (by simp)))
      (fun r => (h1 _ _).trans (congrArg₂ (pl 32 X n) (by simp) (by simp)))
      (fun r => (h0 _ _).trans (congrArg₂ (pl 32 X n) (by simp; omega) (by simp)))
      (fun r => (h2 _ _ _).trans (band_lane 32 10 64 w 0 0 _ _ (by first | omega | (dsimp only; omega)))) (fun r => (h2 _ _ _).trans (band_lane 32 10 64 w 0 0 _ _ (by first | omega | (dsimp only; omega))))
      (fun r => (h2 _ _ _).trans (band_lane 32 10 64 w 0 0 _ _ (by first | omega | (dsimp only; omega))))
  split
  · have e : ∀ h, (⟨256 + (s - 256), h⟩ : Fin 768) = s := fun _ => Fin.ext (by dsimp only; omega)
    rw [e]
    exact row_val (K := 384) (C := 32) (H := 128) (W := 10) (x := X) (w := w) (n := n) (y := evenOdd 128 r) 4 12 rfl (by norm_num) (by unfold evenOdd; split <;> omega)
      (h5 _) (h6 _) (by omega)
      (fun r => (h0 _ _).trans (congrArg₂ (pl 32 X n) (by simp) (by simp)))
      (fun r => (h1 _ _).trans (congrArg₂ (pl 32 X n) (by simp) (by simp)))
      (fun r => (h0 _ _).trans (congrArg₂ (pl 32 X n) (by simp; omega) (by simp)))
      (fun r => (h3 _ _ _).trans (band_lane 32 10 64 w 256 128 _ _ (by first | omega | (dsimp only; omega)))) (fun r => (h3 _ _ _).trans (band_lane 32 10 64 w 256 128 _ _ (by first | omega | (dsimp only; omega))))
      (fun r => (h3 _ _ _).trans (band_lane 32 10 64 w 256 128 _ _ (by first | omega | (dsimp only; omega))))
  · have e : ∀ h, (⟨512 + (s - 256 - 256), h⟩ : Fin 768) = s := fun _ => Fin.ext (by dsimp only; omega)
    rw [e]
    exact row_val (K := 320) (C := 32) (H := 128) (W := 10) (x := X) (w := w) (n := n) (y := evenOdd 128 r) 12 10 rfl (by norm_num) (by unfold evenOdd; split <;> omega)
      (h5 _) (h6 _) (by omega)
      (fun r => (h0 _ _).trans (congrArg₂ (pl 32 X n) (by simp) (by simp)))
      (fun r => (h1 _ _).trans (congrArg₂ (pl 32 X n) (by simp) (by simp)))
      (fun r => (h0 _ _).trans (congrArg₂ (pl 32 X n) (by simp; omega) (by simp)))
      (fun r => (h4 _ _ _).trans (band_lane 32 10 64 w 512 384 _ _ (by first | omega | (dsimp only; omega)))) (fun r => (h4 _ _ _).trans (band_lane 32 10 64 w 512 384 _ _ (by first | omega | (dsimp only; omega))))
      (fun r => (h4 _ _ _).trans (band_lane 32 10 64 w 512 384 _ _ (by first | omega | (dsimp only; omega))))

theorem out2_8_at (u : Fin 65) (s : Fin 768) :
    (out2_8 (F := Ideal) x0 x1 x2 x3 x4 x5 x6 x7 (ix3 0 u s) : EReal)
      = pl 64 (conv 32 128 10 X w g b) n (2 * u) s := by
  have hu := u.2
  unfold out2_8
  rw [View.canon_unit_zero (by funext a; fin_cases a <;> rfl)]
  pointwise [k2_pay2, k2_pay1]
  split
  · rw [show 2 * (u : ℕ) = 0 by omega, pl, padA_zero]
  · rw [k2_pay10_at x0 x1 x2 x3 x4 x5 x6 x7 X w n g b h0 h1 h2 h3 h4 h5 h6 h7]
    congr 1
    dsimp only [evenOdd]
    split <;> omega

theorem out2_9_at (u : Fin 65) (s : Fin 768) :
    (out2_9 (F := Ideal) x0 x1 x2 x3 x4 x5 x6 x7 (ix3 0 u s) : EReal)
      = pl 64 (conv 32 128 10 X w g b) n (2 * u + 1) s := by
  have hu := u.2
  unfold out2_9
  rw [View.canon_unit_zero (by funext a; fin_cases a <;> rfl)]
  pointwise [k2_pay3, k2_pay1]
  split
  · rw [k2_pay10_at x0 x1 x2 x3 x4 x5 x6 x7 X w n g b h0 h1 h2 h3 h4 h5 h6 h7]
    congr 1
    dsimp only [evenOdd]
    split <;> omega
  · rw [pl, show 2 * (u : ℕ) + 1 = 128 + 1 by omega, padA_conv_top]

end

end Cert.KernelIdeal.Val

end
-- ==== Proof.Arr2.lean ====
/- The third convolution kernel's two output arrays, from its input arrays. -/
module

public import proofs.«01_k».proof.Proof.Region2
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Enc

set_option maxHeartbeats 1000000

theorem idx2 : ∀ t : Fin cfg2.N, win2_0.index t = ![t.val, 0, 0] ∧ win2_1.index t = ![t.val, 0, 0] ∧ win2_2.index t = ![0, 0, 0] ∧
    win2_3.index t = ![0, 0, 0] ∧ win2_4.index t = ![0, 0, 0] ∧ win2_5.index t = ![0, 0] ∧
    win2_6.index t = ![0, 0] ∧ win2_7.index t = ![0, 0] ∧ win2_8.index t = ![t.val, 0, 0] ∧
    win2_9.index t = ![t.val, 0, 0] :=
  (by decide +kernel : ∀ t : Fin grid2.N, _)

section
variable (V : (c : Dev nD) → (b : Ref sig .tc) → Buf (Elt Ideal) ((c : Thread nD τ).loc b)) (c : Dev nD) (X w : Act) (g b : ℕ → EReal)
  (h0 : ∀ (n : Fin 32) (u : Fin 129) (r : Fin 704), (V c main_v140_0 (ix3 n u r) : EReal) = pl 32 X n (2 * u) r)
  (h1 : ∀ (n : Fin 32) (u : Fin 129) (r : Fin 704), (V c main_v140_1 (ix3 n u r) : EReal) = pl 32 X n (2 * u + 1) r)
  (h2 : ∀ (k : Fin 3) (r : Fin 256) (s : Fin 256), (V c main_v207 (ix3 k r s) : EReal) = bandW 1 10 32 w k (0 + r) ((0 + s) % 64) ((0 + s) / 64))
  (h3 : ∀ (k : Fin 3) (r : Fin 384) (s : Fin 256), (V c main_v208 (ix3 k r s) : EReal) = bandW 1 10 32 w k (128 + r) ((256 + s) % 64) ((256 + s) / 64))
  (h4 : ∀ (k : Fin 3) (r : Fin 320) (s : Fin 256), (V c main_v209 (ix3 k r s) : EReal) = bandW 1 10 32 w k (384 + r) ((512 + s) % 64) ((512 + s) / 64))
  (h5 : ∀ s : Fin 768, (V c main_v189 (ix2 0 s) : EReal) = if 1 ≤ (s : ℕ) / 64 ∧ (s : ℕ) / 64 < 10 + 1 then g (s % 64) else 0)
  (h6 : ∀ s : Fin 768, (V c main_v190 (ix2 0 s) : EReal) = if 1 ≤ (s : ℕ) / 64 ∧ (s : ℕ) / 64 < 10 + 1 then b (s % 64) else 0)
  (h7 : ∀ r c' : Fin 128, (V c main_v206 (ix2 r c') : EReal) = (if (c' : ℕ) = evenOdd 128 r then 1 else 0 : EReal))

include h0 h1 h2 h3 h4 h5 h6 h7

theorem arr2_8 (n : Fin 32) (u : Fin 65) (s : Fin 768) :
    ((dat2 V c).arrAt 8 cfg2.N (ix3 n u s) : EReal) = pl 64 (conv 32 128 10 X w g b) n (2 * u) s := by
  refine (dat2 V c).arrAt_forall_of_covers 8 (fun (i : S32x65x768.Idx) (v : EReal) =>
    v = pl 64 (conv 32 128 10 X w g b) (i 0 : Fin 32) (2 * (i 1 : Fin 65).val) (i 2 : Fin 768)) (by decide +kernel) (fun t hf y => ?_) (ix3 n u s)
  blk_simp [idx2 t]
  rw [after2_8]
  have e : y = ix3 (0 : Fin 1) (y 1 : Fin 65) (y 2 : Fin 768) := by
    funext a
    match a with
    | ⟨0, _⟩ => exact Subsingleton.elim (α := Fin 1) _ _
    | ⟨1, _⟩ => rfl
    | ⟨2, _⟩ => rfl
  refine (congrArg _ e).trans ?_
  refine out2_8_at _ _ _ _ _ _ _ _ X w t g b ?_ ?_ ?_ ?_ ?_ ?_ ?_ ?_ (y 1) (y 2)
  · intro u r
    refine Eq.trans ?_ (h0 ⟨t, t.2⟩ u r)
    blk_ext [iblk2, idx2 t]
  · intro u r
    refine Eq.trans ?_ (h1 ⟨t, t.2⟩ u r)
    blk_ext [iblk2, idx2 t]
  · intro k r s
    refine Eq.trans ?_ (h2 k r s)
    blk_ext [iblk2, idx2 t]
  · intro k r s
    refine Eq.trans ?_ (h3 k r s)
    blk_ext [iblk2, idx2 t]
  · intro k r s
    refine Eq.trans ?_ (h4 k r s)
    blk_ext [iblk2, idx2 t]
  · intro s
    refine Eq.trans ?_ (h5 s)
    blk_ext [iblk2, idx2 t]
  · intro s
    refine Eq.trans ?_ (h6 s)
    blk_ext [iblk2, idx2 t]
  · intro r c'
    refine Eq.trans ?_ (h7 r c')
    blk_ext [iblk2, idx2 t]

theorem arr2_9 (n : Fin 32) (u : Fin 65) (s : Fin 768) :
    ((dat2 V c).arrAt 9 cfg2.N (ix3 n u s) : EReal) = pl 64 (conv 32 128 10 X w g b) n (2 * u + 1) s := by
  refine (dat2 V c).arrAt_forall_of_covers 9 (fun (i : S32x65x768.Idx) (v : EReal) =>
    v = pl 64 (conv 32 128 10 X w g b) (i 0 : Fin 32) (2 * (i 1 : Fin 65).val + 1) (i 2 : Fin 768)) (by decide +kernel) (fun t hf y => ?_) (ix3 n u s)
  blk_simp [idx2 t]
  rw [after2_9]
  have e : y = ix3 (0 : Fin 1) (y 1 : Fin 65) (y 2 : Fin 768) := by
    funext a
    match a with
    | ⟨0, _⟩ => exact Subsingleton.elim (α := Fin 1) _ _
    | ⟨1, _⟩ => rfl
    | ⟨2, _⟩ => rfl
  refine (congrArg _ e).trans ?_
  refine out2_9_at _ _ _ _ _ _ _ _ X w t g b ?_ ?_ ?_ ?_ ?_ ?_ ?_ ?_ (y 1) (y 2)
  · intro u r
    refine Eq.trans ?_ (h0 ⟨t, t.2⟩ u r)
    blk_ext [iblk2, idx2 t]
  · intro u r
    refine Eq.trans ?_ (h1 ⟨t, t.2⟩ u r)
    blk_ext [iblk2, idx2 t]
  · intro k r s
    refine Eq.trans ?_ (h2 k r s)
    blk_ext [iblk2, idx2 t]
  · intro k r s
    refine Eq.trans ?_ (h3 k r s)
    blk_ext [iblk2, idx2 t]
  · intro k r s
    refine Eq.trans ?_ (h4 k r s)
    blk_ext [iblk2, idx2 t]
  · intro s
    refine Eq.trans ?_ (h5 s)
    blk_ext [iblk2, idx2 t]
  · intro s
    refine Eq.trans ?_ (h6 s)
    blk_ext [iblk2, idx2 t]
  · intro r c'
    refine Eq.trans ?_ (h7 r c')
    blk_ext [iblk2, idx2 t]

end

end Cert.KernelIdeal.Val

end
-- ==== Proof.Words.lean ====
module

public import proofs.«01_k».proof.Proof.Math
public import Idealize.ShloMosaic.Lib.StableHlo.ReadAt
public import Idealize.ShloMosaic.Lib.Pointwise
public import Idealize.ShloMosaic.Lib.WordCmp
@[expose] public section
set_option maxRecDepth 16384
set_option maxHeartbeats 4000000
noncomputable section
namespace Cert.Enc
open Idealize.ShloMosaic Idealize.ShloMosaic.TcCoe Idealize.SL.Sem Idealize.ShloMosaic.StableHlo
open Cert.Enc

theorem bits_at (p q s : Prop) [Decidable p] [Decidable q] [Decidable s] :
    FloatOps.sitofp (F := Ideal) FTy.f32 (BitVec.setWidth 32 (IntOp.andi (IntOp.andi (BitVec.ofBool (decide p)) (BitVec.ofBool (decide q))) (BitVec.ofBool (decide s))))
      = if q ∧ s ∧ p then (1 : EReal) else 0 := by
  have h1 : FloatOps.sitofp (F := Ideal) FTy.f32 (1#32) = (1 : EReal) := by
    show (((1#32).toInt : ℝ) : EReal) = 1
    norm_num
  have h0 : FloatOps.sitofp (F := Ideal) FTy.f32 (0#32) = (0 : EReal) := by
    show (((0#32).toInt : ℝ) : EReal) = 0
    norm_num
  by_cases hp : p <;> by_cases hq : q <;> by_cases hs : s <;> simp only [hp, hq, hs] <;> first | exact h1.trans (by simp) | exact h0.trans (by simp)

theorem sel_at {r j W : ℕ} (x : ℕ) (w : BitVec 32) (hw : w = BitVec.ofNat 32 W) (hr : r < 2000) (hj : j < 2000) (hx : x < 3) (hW : W < 2000) :
    FloatOps.sitofp (F := Ideal) FTy.f32
          (BitVec.setWidth 32
            (IntOp.andi
              (IntOp.andi
                (IntOp.cmpi CmpIPredicate.eq (BitVec.ofNat 32 r)
                  (IntOp.addi (IntOp.muli (2#32) (IntOp.subi (BitVec.ofNat 32 j) 1#32)) (BitVec.ofNat 32 x)))
                (IntOp.cmpi CmpIPredicate.sge (IntOp.subi (BitVec.ofNat 32 j) 1#32) 0#32))
              (IntOp.cmpi CmpIPredicate.slt (IntOp.subi (BitVec.ofNat 32 j) 1#32) w))) = sel 1 W x r j := by
  subst hw
  rcases j with _ | t
  · have e : IntOp.cmpi CmpIPredicate.sge (IntOp.subi (BitVec.ofNat 32 0) 1#32) 0#32 = BitVec.ofBool (decide False) := by decide
    rw [e, WordCmp.cmpi_eq_eq, WordCmp.cmpi_slt_eq, bits_at, sel, if_neg (by simp), if_neg (by omega)]
  · have e1 : IntOp.subi (BitVec.ofNat 32 (t + 1)) 1#32 = BitVec.ofNat 32 t := by
      apply BitVec.eq_of_toNat_eq
      simp [IntOp.subi, BitVec.toNat_sub]
      omega
    have e2 : IntOp.addi (IntOp.muli (2#32) (BitVec.ofNat 32 t)) (BitVec.ofNat 32 x) = BitVec.ofNat 32 (2 * t + x) := by
      apply BitVec.eq_of_toNat_eq
      simp [IntOp.addi, IntOp.muli, BitVec.toNat_add, BitVec.toNat_mul]
    rw [e1, e2, WordCmp.cmpi_eq_ofNat (by omega) (by omega), WordCmp.cmpi_slt_ofNat (by omega) (by omega), show (0#32) = BitVec.ofNat 32 0 from rfl, WordCmp.cmpi_sge_ofNat (by omega) (by omega), bits_at, sel]
    exact if_congr (by omega) rfl rfl
/-- One entry of the rows' permutation. -/
theorem perm_at {N r c : ℕ} (hN : N = 128 ∨ N = 256) (hr : r < N) (hc : c < N) (h d : BitVec 32) (hh : h = BitVec.ofNat 32 (N / 2)) (hd : d = BitVec.ofNat 32 N) :
    Scalar.select (IntOp.cmpi .eq (BitVec.ofNat 32 c) (Scalar.select (IntOp.cmpi .slt (BitVec.ofNat 32 r) h)
      (IntOp.muli 2#32 (BitVec.ofNat 32 r)) (IntOp.addi (IntOp.subi (IntOp.muli 2#32 (BitVec.ofNat 32 r)) d) 1#32))) (1 : EReal) 0
      = if c = evenOdd N r then 1 else 0 := by
  subst hh hd
  have e1 : IntOp.muli 2#32 (BitVec.ofNat 32 r) = BitVec.ofNat 32 (2 * r) := by
    apply BitVec.eq_of_toNat_eq
    simp [IntOp.muli, BitVec.toNat_mul]
  rw [e1, WordCmp.cmpi_slt_ofNat (by omega) (by omega)]
  by_cases hlt : r < N / 2
  · have e : (Scalar.select (BitVec.ofBool (decide (r < N / 2))) (BitVec.ofNat 32 (2 * r)) (IntOp.addi (IntOp.subi (BitVec.ofNat 32 (2 * r)) (BitVec.ofNat 32 N)) 1#32)) = BitVec.ofNat 32 (2 * r) := by
      simp [hlt, Scalar.select]
    rw [e, WordCmp.cmpi_eq_ofNat (by omega) (by omega), evenOdd, if_pos hlt]
    by_cases hcc : c = 2 * r <;> simp [hcc, Scalar.select]
  · have e2 : IntOp.addi (IntOp.subi (BitVec.ofNat 32 (2 * r)) (BitVec.ofNat 32 N)) 1#32 = BitVec.ofNat 32 (2 * r - N + 1) := by
      apply BitVec.eq_of_toNat_eq
      simp [IntOp.subi, IntOp.addi, BitVec.toNat_sub, BitVec.toNat_add]
      omega
    have e : (Scalar.select (BitVec.ofBool (decide (r < N / 2))) (BitVec.ofNat 32 (2 * r)) (IntOp.addi (IntOp.subi (BitVec.ofNat 32 (2 * r)) (BitVec.ofNat 32 N)) 1#32)) = BitVec.ofNat 32 (2 * r - N + 1) := by
      rw [e2]
      simp [hlt, Scalar.select]
    rw [e, WordCmp.cmpi_eq_ofNat (by omega) (by omega), evenOdd, if_neg hlt]
    by_cases hcc : c = 2 * r - N + 1 <;> simp [hcc, Scalar.select]
end Cert.Enc
end
-- ==== Proof.RefMath.lean ====
/- The reference's nine shifted products are a layer, as the mathematics writes it. -/
module

public import proofs.«01_k».proof.Proof.Math

@[expose] public section

set_option maxRecDepth 16384

noncomputable section

namespace Cert.Enc

open Idealize.ShloMosaic

theorem ofBits_bn : Ideal.ofBits .f32 1065353300#32 = ((2097173 / 2097152 : ℝ) : EReal) := by
  simp [Ideal.ofBits, Ideal.ieee, -EReal.coe_mul]
  norm_num

/-- The square root of the divisor's square, at its ideal value. -/
theorem sqrt_bn (S : Shape) (i : S.Idx) : (Host.sqrt (constant (F := Ideal) S .f32 1065353300#32) i : EReal) = bnDiv := by
  show Ideal.sqrt (Ideal.ofBits .f32 1065353300#32) = bnDiv
  rw [ofBits_bn, Ideal.sqrt_coe, if_neg (by norm_num)]
  rfl

theorem ofBits_quarter : Ideal.ofBits .f32 0x3E800000#32 = ((1 / 4 : ℝ) : EReal) := by
  simp [Ideal.ofBits, Ideal.ieee, -EReal.coe_mul]
  norm_num

theorem ofBits_five_quarters : Ideal.ofBits .f32 0x3FA00000#32 = ((5 / 4 : ℝ) : EReal) := by
  simp [Ideal.ofBits, Ideal.ieee, -EReal.coe_mul]
  norm_num

/-- A mean and a quarter of it are five quarters of it. -/
theorem quarter_add (m : EReal) :
    m + Ideal.ofBits .f32 0x3E800000#32 * m = Ideal.ofBits .f32 0x3FA00000#32 * m := by
  rw [ofBits_quarter, ofBits_five_quarters]
  induction m with
  | bot => rw [EReal.coe_mul_bot_of_pos (by norm_num), EReal.coe_mul_bot_of_pos (by norm_num)]; rfl
  | top => rw [EReal.coe_mul_top_of_pos (by norm_num), EReal.coe_mul_top_of_pos (by norm_num)]; rfl
  | coe m => rw [← EReal.coe_mul, ← EReal.coe_mul, ← EReal.coe_add]; congr 1; ring

/-- An activation is zero outside its rows and columns. -/
def Within (H W : ℕ) (x : Act) : Prop := ∀ n c y j, ¬ (y < H ∧ j < W) → x n c y j = 0

theorem within_conv (C H W : ℕ) (x w : Act) (g b : ℕ → EReal) : Within H W (conv C H W x w g b) :=
  fun _ _ _ _ h => if_neg h

theorem tap {H W : ℕ} {x : Act} (hx : Within H W x) {n c y q : ℕ} (Y Q : ℕ) {P : Prop} [Decidable P] {wv w' : EReal}
    (hP : P ↔ (1 ≤ Y ∧ Y - 1 < H) ∧ 1 ≤ Q ∧ Q - 1 < W) (hy : y = Y - 1) (hq : q = Q - 1) (hw : wv = w') :
    wv * (if P then x n c y q else 0) = padA x n c Y Q * w' := by
  subst hy hq hw
  rw [mul_comm]
  congr 1
  unfold padA
  by_cases h : 1 ≤ Y ∧ 1 ≤ Q
  · by_cases h2 : P
    · rw [if_pos h2, if_pos h]
    · rw [if_neg h2, if_pos h, hx _ _ _ _ (by rw [hP] at h2; omega)]
  · rw [if_neg h, if_neg (by rw [hP]; omega)]

theorem conv_of_taps {C H W : ℕ} {x w : Act} {g b : ℕ → EReal} {n d y j : ℕ} {gl bl q : EReal}
    {f00 f01 f02 f10 f11 f12 f20 f21 f22 : Fin C → EReal} (hy : y < H) (hj : j < W)
    (hg : gl = g d) (hb : bl = b d) (hq : q = bnDiv)
    (h00 : ∀ c, f00 c = padA x n c (2 * y + 0) (2 * j + 0) * w d c 0 0)
    (h01 : ∀ c, f01 c = padA x n c (2 * y + 0) (2 * j + 1) * w d c 0 1)
    (h02 : ∀ c, f02 c = padA x n c (2 * y + 0) (2 * j + 2) * w d c 0 2)
    (h10 : ∀ c, f10 c = padA x n c (2 * y + 1) (2 * j + 0) * w d c 1 0)
    (h11 : ∀ c, f11 c = padA x n c (2 * y + 1) (2 * j + 1) * w d c 1 1)
    (h12 : ∀ c, f12 c = padA x n c (2 * y + 1) (2 * j + 2) * w d c 1 2)
    (h20 : ∀ c, f20 c = padA x n c (2 * y + 2) (2 * j + 0) * w d c 2 0)
    (h21 : ∀ c, f21 c = padA x n c (2 * y + 2) (2 * j + 1) * w d c 2 1)
    (h22 : ∀ c, f22 c = padA x n c (2 * y + 2) (2 * j + 2) * w d c 2 2) :
    max (Ideal.div (gl * ((∑ c, f00 c) + (∑ c, f01 c) + (∑ c, f02 c) + (∑ c, f10 c) + (∑ c, f11 c) + (∑ c, f12 c)
      + (∑ c, f20 c) + (∑ c, f21 c) + (∑ c, f22 c))) q + bl) 0 = conv C H W x w g b n d y j := by
  unfold conv bn convSum
  rw [if_pos ⟨hy, hj⟩, hg, hb, hq]
  simp only [h00, h01, h02, h10, h11, h12, h20, h21, h22, Fin.sum_univ_three, add_assoc]
  rfl

end Cert.Enc

end
-- ==== Proof.Scatter.lean ====
module
public import Idealize.ShloMosaic.Lib.Routing.OpsSet
public import Idealize.ShloMosaic.Lib.Routing.OpsOne
@[expose] public section

/-! A scatter that writes a whole block of rows. -/

namespace Cert.Enc
open Idealize.ShloMosaic Idealize.ShloMosaic.ValueIdx Idealize.ShloMosaic.Routing

theorem lands_rows {R C U : Nat} (d : ScatterDims (shape2 R C) (shape1 1) (shape2 U C)) (huw : d.updateWindowDims = [0, 1])
    (hiw : d.insertedWindowDims = []) (hsd : d.scatterDimsToOperandDims = [0]) (hivd : d.indexVectorDim = 0) (idx : IVec (shape1 1) 32)
    (p : Fin U) (q : Fin C) (r : Fin R) (s : Fin C) :
    d.resultIdx? (ix2 p q) idx = some (ix2 r s) ↔ (idx (ix1 (0 : Fin 1))).toInt + (p.val : Int) = r.val ∧ q = s := by
  have hm : (0 : Fin 2) ∈ d.scatterDimsToOperandDims := by rw [hsd]; exact List.mem_singleton.2 rfl
  have hkept : d.sKept = [0, 1] := by
    show (shape2 R C).kept d.insertedWindowDims = _
    rw [hiw]
    rfl
  have hwin0 : d.window (ix2 p q) 0 = p.val := by
    have e : ∀ i : Fin 2, i = 0 → (ix2 p q i).val = p.val := by
      rintro _ rfl
      rfl
    unfold ScatterDims.window
    rw [dif_pos (by rw [hkept]; simp)]
    exact e _ (by simp [hkept, huw])
  have hwin1 : d.window (ix2 p q) 1 = q.val := by
    have e : ∀ i : Fin 2, i = 1 → (ix2 p q i).val = q.val := by
      rintro _ rfl
      rfl
    unfold ScatterDims.window
    rw [dif_pos (by rw [hkept]; simp)]
    exact e _ (by simp [hkept, huw])
  have hstart1 : d.start (ix2 p q) idx 1 = 0 := by
    unfold ScatterDims.start
    rw [dif_neg fun h => by rw [hsd] at h; exact absurd (List.mem_singleton.1 h) (by decide : (1 : Fin 2) ≠ 0)]
  have hstart0 : d.start (ix2 p q) idx 0 = (idx (ix1 (0 : Fin 1))).toInt := by
    unfold ScatterDims.start
    rw [dif_pos hm]
    have hsi : d.siIdx (ix2 p q) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi]
  rw [Fin.ext_iff, resultIdx?_ix2, hstart0, hwin0, hstart1, hwin1]
  omega

theorem scatter_rows {α : Type} {R C U : Nat} (d : ScatterDims (shape2 R C) (shape1 1) (shape2 U C)) (huw : d.updateWindowDims = [0, 1])
    (hiw : d.insertedWindowDims = []) (hsd : d.scatterDimsToOperandDims = [0]) (hivd : d.indexVectorDim = 0)
    (x0 : (shape2 R C).Idx → α) (idx : IVec (shape1 1) 32) (hidx : (idx (ix1 (0 : Fin 1))).toInt = 1)
    (upd : (shape2 U C).Idx → α) (f : Fin C → α) (hu : ∀ p q, upd (ix2 p q) = f q) (r : Fin R) (s : Fin C) :
    Host.scatter d (fun _ b => b) x0 idx upd (ix2 r s) = if 1 ≤ r.val ∧ r.val < U + 1 then f s else x0 (ix2 r s) := by
  have hl : ∀ k : (shape2 U C).Idx, d.resultIdx? k idx = some (ix2 r s) → 1 ≤ r.val ∧ r.val < U + 1 ∧ upd k = f s := fun k hk => by
    rw [eq_ix2 k] at hk ⊢
    have h := (lands_rows d huw hiw hsd hivd idx (k 0) (k 1) r s).1 hk
    have h0 : (k 0).val < U := (k 0).isLt
    rw [hidx] at h
    exact ⟨by omega, by omega, (hu (k 0) (k 1)).trans (congrArg f h.2)⟩
  by_cases h : 1 ≤ r.val ∧ r.val < U + 1
  · rw [if_pos h]
    exact scatter_set_hit d x0 idx upd _ _ (fun k hk => (hl k hk).2.2) (ix2 (⟨r.val - 1, by omega⟩ : Fin U) s)
      ((lands_rows d huw hiw hsd hivd idx _ _ r s).2 ⟨by rw [hidx]; dsimp only; omega, rfl⟩)
  · rw [if_neg h]
    exact scatter_set_miss d x0 idx upd _ fun k hk => h ⟨(hl k hk).1, (hl k hk).2.1⟩

end Cert.Enc
-- ==== Proof.HostLib.lean ====
/- Small facts for reading what the host prepares for the convolution kernels. -/
module

public import proofs.«01_k».proof.Proof.Gen.KernelIdeal.Launch
public import proofs.«01_k».proof.Proof.Words
public import proofs.«01_k».proof.Proof.RefMath
public import proofs.«01_k».proof.Proof.Scatter
public import Idealize.ShloMosaic.Lib.StableHlo.ReadAt
public import Idealize.ShloMosaic.Lib.Pointwise

@[expose] public section

set_option maxRecDepth 16384
set_option maxHeartbeats 4000000

noncomputable section

namespace Cert.KernelIdeal.Val

open Idealize.ShloMosaic Idealize.ShloMosaic.TcCoe Idealize.SL.Sem Idealize.ShloMosaic.StableHlo
open Cert.KernelIdeal Cert.KernelIdeal.Gen Cert.Enc

theorem pl_one (X : Act) (n Y s : ℕ) : pl 1 X n Y s = if 1 ≤ Y ∧ 1 ≤ s then X n 0 (Y - 1) (s - 1) else 0 := by
  rw [pl, padA, Nat.mod_one, Nat.div_one]

theorem vix2 {a b : ℕ} (p : Fin a) (q : Fin b) : ValueIdx.ix2 p q = ix2 p q := by
  funext i
  match i with
  | ⟨0, _⟩ => rfl
  | ⟨1, _⟩ => rfl

/-- Lanes of a row of per-channel numbers, written over zeros by one block. -/
theorem lanes_at {R C U : ℕ} (d : ScatterDims ⟨2, ![R, C]⟩ ⟨1, ![1]⟩ ⟨2, ![U, C]⟩) (huw : d.updateWindowDims = [0, 1])
    (hiw : d.insertedWindowDims = []) (hsd : d.scatterDimsToOperandDims = [0]) (hivd : d.indexVectorDim = 0)
    (x0 : (⟨2, ![R, C]⟩ : Shape).Idx → EReal) (idx : IVec ⟨1, ![1]⟩ 32) (hidx : (idx (ValueIdx.ix1 (0 : Fin 1))).toInt = 1)
    (upd : (⟨2, ![U, C]⟩ : Shape).Idx → EReal) (f : ℕ → EReal) (hu : ∀ p q, upd (ix2 p q) = f q.val) (hz : ∀ r s, x0 (ix2 r s) = 0) (r : Fin R) (s : Fin C) :
    Host.scatter d (fun _ b => b) x0 idx upd (ix2 r s) = if 1 ≤ r.val ∧ r.val < U + 1 then f s else 0 := by
  have h := scatter_rows d huw hiw hsd hivd x0 idx hidx upd (fun q => f q.val) (fun p q => by rw [vix2]; exact hu p q) r s
  rw [vix2, hz] at h
  exact h

theorem bandW_of {C W d r j kh : ℕ} (q : ℕ) {w : Act} {f : Fin 3 → EReal} (hq : kh = q) (h : ∀ x, f x = w d (r % C) q x * sel 1 W x (r / C) j) :
    ∑ x, f x = bandW 1 W C w kh r d j := by
  subst hq
  exact Finset.sum_congr rfl fun x _ => h x

theorem zero_word : FloatOps.sitofp (F := Ideal) FTy.f32 (0#32) = (0 : EReal) := by
  show (((0#32).toInt : ℝ) : EReal) = 0
  norm_num

end Cert.KernelIdeal.Val

end
-- ==== Proof.Host0.lean ====
/- What the host prepares for the first convolution kernel. -/
module

public import proofs.«01_k».proof.Proof.Gen.KernelIdeal.Launch
public import proofs.«01_k».proof.Proof.HostLib
public import Idealize.ShloMosaic.Lib.StableHlo.ReadAt
public import Idealize.ShloMosaic.Lib.Pointwise

@[expose] public section

set_option maxRecDepth 16384
set_option maxHeartbeats 4000000

noncomputable section

namespace Cert.KernelIdeal.Val

open Idealize.ShloMosaic Idealize.ShloMosaic.TcCoe Idealize.SL.Sem Idealize.ShloMosaic.StableHlo
open Cert.KernelIdeal Cert.KernelIdeal.Gen Cert.Enc

variable (V : Valuation τ sig (Elt Ideal))

/-- The contents at the first kernel's launch. -/
def host0 (V : Valuation τ sig (Elt Ideal)) : Valuation τ sig (Elt Ideal) :=
  StableHlo.after hostOps0_6 (StableHlo.after hostOps0_5 (StableHlo.after hostOps0_4 (StableHlo.after hostOps0_3
    (StableHlo.after hostOps0_2 (StableHlo.after hostOps0_1 (StableHlo.after hostOps0 V))))))

theorem bw0 (w : Act) (hw : ∀ (d : Fin 32) (c : Fin 1) (kh kw : Fin 3), (V (Proc.devRef .tc main_arg1) (ix4 d c kh kw) : EReal) = w d c kh kw)
    (k : Fin 3) (r : Fin 82) (s : Fin 1344) :
    (host0 V (Proc.devRef .tc main_v41) (ix3 k r s) : EReal) = bandW 1 40 1 w k r (s.val % 32) (s.val / 32) := by
  have hr := r.2
  have hs := s.2
  have hk := k.2
  unfold host0
  after_reads_at
  split
  · after_reads_at
    refine bandW_of 0 (by omega) fun x => ?_
    rw [hw, sel_at (W := 40) x _ rfl (by omega) (by omega) x.2 (by omega), Nat.mod_one, Nat.div_one]
    rfl
  · split
    · after_reads_at
      refine bandW_of 1 (by omega) fun x => ?_
      rw [hw, sel_at (W := 40) x _ rfl (by omega) (by omega) x.2 (by omega), Nat.mod_one, Nat.div_one]
      rfl
    · after_reads_at
      refine bandW_of 2 (by omega) fun x => ?_
      rw [hw, sel_at (W := 40) x _ rfl (by omega) (by omega) x.2 (by omega), Nat.mod_one, Nat.div_one]
      rfl

theorem gl0 (g : ℕ → EReal) (hg : ∀ d : Fin 32, (V (Proc.devRef .tc main_arg4) (ix1 d) : EReal) = g d.val) (s : Fin 1344) :
  (host0 V (Proc.devRef .tc main_v52) (ix2 0 s) : EReal) =
  if 1 ≤ s.val / 32 ∧ s.val / 32 < 40 + 1 then g (s.val % 32) else 0 := by
  unfold host0
  after_reads_at
  refine lanes_at (R := 42) (C := 32) (U := 40) scatter_S42x32_S1_S40x32_01_n_0_0 rfl rfl rfl rfl _ _ (by rfl) _ g (fun p q => ?_) (fun r s => ?_) _ _
  · pointwise
    exact hg q
  · pointwise
theorem bl0 (g : ℕ → EReal) (hg : ∀ d : Fin 32, (V (Proc.devRef .tc main_arg7) (ix1 d) : EReal) = g d.val) (s : Fin 1344) :
  (host0 V (Proc.devRef .tc main_v53) (ix2 0 s) : EReal) =
  if 1 ≤ s.val / 32 ∧ s.val / 32 < 40 + 1 then g (s.val % 32) else 0 := by
  unfold host0
  after_reads_at
  refine lanes_at (R := 42) (C := 32) (U := 40) scatter_S42x32_S1_S40x32_01_n_0_0 rfl rfl rfl rfl _ _ (by rfl) _ g (fun p q => ?_) (fun r s => ?_) _ _
  · pointwise
    exact hg q
  · pointwise

theorem even0 (X : Act) (hX : ∀ (n : Fin 32) (c : Fin 1) (y : Fin 1024) (j : Fin 80), (V (Proc.devRef .tc main_arg0) (ix3 n y j) : EReal) = X n c y j)
    (hw : Within 1024 80 X) (n : Fin 32) (u : Fin 513) (s : Fin 82) :
    (host0 V (Proc.devRef .tc main_v2) (ix3 n u s) : EReal) = pl 1 X n (2 * u) s := by
  unfold host0
  after_reads_at
  rw [pl_one]
  split
  · rename_i h
    rw [if_pos (by omega)]
    exact hX n 0 _ _
  · rename_i h
    rw [zero_word]
    split
    · rw [hw]
      omega
    · rfl

theorem odd0 (X : Act) (hX : ∀ (n : Fin 32) (c : Fin 1) (y : Fin 1024) (j : Fin 80), (V (Proc.devRef .tc main_arg0) (ix3 n y j) : EReal) = X n c y j)
    (hw : Within 1024 80 X) (n : Fin 32) (u : Fin 513) (s : Fin 82) :
    (host0 V (Proc.devRef .tc main_v3) (ix3 n u s) : EReal) = pl 1 X n (2 * u + 1) s := by
  unfold host0
  after_reads_at
  rw [pl_one]
  split
  · rename_i h
    rw [if_pos (by omega)]
    exact hX n 0 _ _
  · rename_i h
    rw [zero_word]
    split
    · rw [hw]
      omega
    · rfl

theorem perm0 (n u : Fin 256) : (host0 V (Proc.devRef .tc main_v69) (ix2 n u) : EReal) = (if (u : ℕ) = evenOdd 256 n then 1 else 0 : EReal) := by
  unfold host0
  after_reads_at
  exact perm_at (.inr rfl) n.2 u.2 _ _ rfl rfl

end Cert.KernelIdeal.Val

end
-- ==== Proof.Host1.lean ====
/- What the host prepares for the second convolution kernel. -/
module

public import proofs.«01_k».proof.Proof.Gen.KernelIdeal.Launch
public import proofs.«01_k».proof.Proof.HostLib
public import Idealize.ShloMosaic.Lib.StableHlo.ReadAt
public import Idealize.ShloMosaic.Lib.Pointwise

@[expose] public section

set_option maxRecDepth 16384
set_option maxHeartbeats 4000000

noncomputable section

namespace Cert.KernelIdeal.Val

open Idealize.ShloMosaic Idealize.ShloMosaic.TcCoe Idealize.SL.Sem Idealize.ShloMosaic.StableHlo
open Cert.KernelIdeal Cert.KernelIdeal.Gen Cert.Enc

variable (V : Valuation τ sig (Elt Ideal))

/-- The contents at the second kernel's launch. -/
def host1 (V : Valuation τ sig (Elt Ideal)) : Valuation τ sig (Elt Ideal) :=
  StableHlo.after hostOps1_4 (StableHlo.after hostOps1_3 (StableHlo.after hostOps1_2 (StableHlo.after hostOps1_1 (StableHlo.after hostOps1 V))))

/-- The banded weights. -/
theorem bw1 (w : Act) (hw : ∀ (d : Fin 32) (c : Fin 32) (kh kw : Fin 3), (V (Proc.devRef .tc main_arg2) (ix4 d c kh kw) : EReal) = w d c kh kw)
    (k : Fin 3) (r : Fin 1344) (s : Fin 704) :
    (host1 V (Proc.devRef .tc main_v108) (ix3 k r s) : EReal) = bandW 1 20 32 w k r (s.val % 32) (s.val / 32) := by
  have hr := r.2
  have hs := s.2
  have hk := k.2
  unfold host1
  after_reads_at
  split
  · after_reads_at
    refine bandW_of 0 (by omega) fun x => ?_
    rw [hw, sel_at (W := 20) x _ rfl (by omega) (by omega) x.2 (by omega)]
    rfl
  · split
    · after_reads_at
      refine bandW_of 1 (by omega) fun x => ?_
      rw [hw, sel_at (W := 20) x _ rfl (by omega) (by omega) x.2 (by omega)]
      rfl
    · after_reads_at
      refine bandW_of 2 (by omega) fun x => ?_
      rw [hw, sel_at (W := 20) x _ rfl (by omega) (by omega) x.2 (by omega)]
      rfl

theorem group1a (w : Act) (hw : ∀ (d : Fin 32) (c : Fin 32) (kh kw : Fin 3), (V (Proc.devRef .tc main_arg2) (ix4 d c kh kw) : EReal) = w d c kh kw)
    (k : Fin 3) (r : Fin 512) (s : Fin 256) :
    (host1 V (Proc.devRef .tc main_v137) (ix3 k r s) : EReal) = bandW 1 20 32 w k (0 + r) ((0 + s) % 32) ((0 + s) / 32) := by
  have e : host1 V (Proc.devRef .tc main_v137) (ix3 k r s)
      = host1 V (Proc.devRef .tc main_v108) (ix3 k (⟨0 + r, by omega⟩ : Fin 1344) (⟨0 + s, by omega⟩ : Fin 704)) := by
    unfold host1
    after_reads_at
  exact e.trans (bw1 V w hw k _ _)

theorem group1b (w : Act) (hw : ∀ (d : Fin 32) (c : Fin 32) (kh kw : Fin 3), (V (Proc.devRef .tc main_arg2) (ix4 d c kh kw) : EReal) = w d c kh kw)
    (k : Fin 3) (r : Fin 640) (s : Fin 256) :
    (host1 V (Proc.devRef .tc main_v138) (ix3 k r s) : EReal) = bandW 1 20 32 w k (384 + r) ((256 + s) % 32) ((256 + s) / 32) := by
  have e : host1 V (Proc.devRef .tc main_v138) (ix3 k r s)
      = host1 V (Proc.devRef .tc main_v108) (ix3 k (⟨384 + r, by omega⟩ : Fin 1344) (⟨256 + s, by omega⟩ : Fin 704)) := by
    unfold host1
    after_reads_at
  exact e.trans (bw1 V w hw k _ _)

theorem group1c (w : Act) (hw : ∀ (d : Fin 32) (c : Fin 32) (kh kw : Fin 3), (V (Proc.devRef .tc main_arg2) (ix4 d c kh kw) : EReal) = w d c kh kw)
    (k : Fin 3) (r : Fin 448) (s : Fin 192) :
    (host1 V (Proc.devRef .tc main_v139) (ix3 k r s) : EReal) = bandW 1 20 32 w k (896 + r) ((512 + s) % 32) ((512 + s) / 32) := by
  have e : host1 V (Proc.devRef .tc main_v139) (ix3 k r s)
      = host1 V (Proc.devRef .tc main_v108) (ix3 k (⟨896 + r, by omega⟩ : Fin 1344) (⟨512 + s, by omega⟩ : Fin 704)) := by
    unfold host1
    after_reads_at
  exact e.trans (bw1 V w hw k _ _)

/-- The lanes' scales. -/
theorem gl1 (g : ℕ → EReal) (hg : ∀ d : Fin 32, (V (Proc.devRef .tc main_arg5) (ix1 d) : EReal) = g d.val) (s : Fin 704) :
    (host1 V (Proc.devRef .tc main_v119) (ix2 0 s) : EReal) = if 1 ≤ s.val / 32 ∧ s.val / 32 < 20 + 1 then g (s.val % 32) else 0 := by
  unfold host1
  after_reads_at
  refine lanes_at (R := 22) (C := 32) (U := 20) scatter_S22x32_S1_S20x32_01_n_0_0 rfl rfl rfl rfl _ _ (by rfl) _ g (fun p q => ?_) (fun r s => ?_) _ _
  · pointwise
    exact hg q
  · pointwise

/-- The lanes' shifts. -/
theorem bl1 (g : ℕ → EReal) (hg : ∀ d : Fin 32, (V (Proc.devRef .tc main_arg8) (ix1 d) : EReal) = g d.val) (s : Fin 704) :
    (host1 V (Proc.devRef .tc main_v120) (ix2 0 s) : EReal) = if 1 ≤ s.val / 32 ∧ s.val / 32 < 20 + 1 then g (s.val % 32) else 0 := by
  unfold host1
  after_reads_at
  refine lanes_at (R := 22) (C := 32) (U := 20) scatter_S22x32_S1_S20x32_01_n_0_0 rfl rfl rfl rfl _ _ (by rfl) _ g (fun p q => ?_) (fun r s => ?_) _ _
  · pointwise
    exact hg q
  · pointwise

theorem perm1 (n u : Fin 256) : (host1 V (Proc.devRef .tc main_v136) (ix2 n u) : EReal) = (if (u : ℕ) = evenOdd 256 n then 1 else 0 : EReal) := by
  unfold host1
  after_reads_at
  exact perm_at (.inr rfl) n.2 u.2 _ _ rfl rfl

end Cert.KernelIdeal.Val

end
-- ==== Proof.Host2.lean ====
/- What the host prepares for the third convolution kernel. -/
module

public import proofs.«01_k».proof.Proof.Gen.KernelIdeal.Launch
public import proofs.«01_k».proof.Proof.HostLib
public import Idealize.ShloMosaic.Lib.StableHlo.ReadAt
public import Idealize.ShloMosaic.Lib.Pointwise

@[expose] public section

set_option maxRecDepth 16384
set_option maxHeartbeats 4000000

noncomputable section

namespace Cert.KernelIdeal.Val

open Idealize.ShloMosaic Idealize.ShloMosaic.TcCoe Idealize.SL.Sem Idealize.ShloMosaic.StableHlo
open Cert.KernelIdeal Cert.KernelIdeal.Gen Cert.Enc

variable (V : Valuation τ sig (Elt Ideal))

/-- The contents at the third kernel's launch. -/
def host2 (V : Valuation τ sig (Elt Ideal)) : Valuation τ sig (Elt Ideal) :=
  StableHlo.after hostOps2_4 (StableHlo.after hostOps2_3 (StableHlo.after hostOps2_2 (StableHlo.after hostOps2_1 (StableHlo.after hostOps2 V))))

/-- The banded weights. -/
theorem bw2 (w : Act) (hw : ∀ (d : Fin 64) (c : Fin 32) (kh kw : Fin 3), (V (Proc.devRef .tc main_arg3) (ix4 d c kh kw) : EReal) = w d c kh kw)
    (k : Fin 3) (r : Fin 704) (s : Fin 768) :
    (host2 V (Proc.devRef .tc main_v178) (ix3 k r s) : EReal) = bandW 1 10 32 w k r (s.val % 64) (s.val / 64) := by
  have hr := r.2
  have hs := s.2
  have hk := k.2
  unfold host2
  after_reads_at
  split
  · after_reads_at
    refine bandW_of 0 (by omega) fun x => ?_
    rw [hw, sel_at (W := 10) x _ rfl (by omega) (by omega) x.2 (by omega)]
    rfl
  · split
    · after_reads_at
      refine bandW_of 1 (by omega) fun x => ?_
      rw [hw, sel_at (W := 10) x _ rfl (by omega) (by omega) x.2 (by omega)]
      rfl
    · after_reads_at
      refine bandW_of 2 (by omega) fun x => ?_
      rw [hw, sel_at (W := 10) x _ rfl (by omega) (by omega) x.2 (by omega)]
      rfl

theorem group2a (w : Act) (hw : ∀ (d : Fin 64) (c : Fin 32) (kh kw : Fin 3), (V (Proc.devRef .tc main_arg3) (ix4 d c kh kw) : EReal) = w d c kh kw)
    (k : Fin 3) (r : Fin 256) (s : Fin 256) :
    (host2 V (Proc.devRef .tc main_v207) (ix3 k r s) : EReal) = bandW 1 10 32 w k (0 + r) ((0 + s) % 64) ((0 + s) / 64) := by
  have e : host2 V (Proc.devRef .tc main_v207) (ix3 k r s)
      = host2 V (Proc.devRef .tc main_v178) (ix3 k (⟨0 + r, by omega⟩ : Fin 704) (⟨0 + s, by omega⟩ : Fin 768)) := by
    unfold host2
    after_reads_at
  exact e.trans (bw2 V w hw k _ _)

theorem group2b (w : Act) (hw : ∀ (d : Fin 64) (c : Fin 32) (kh kw : Fin 3), (V (Proc.devRef .tc main_arg3) (ix4 d c kh kw) : EReal) = w d c kh kw)
    (k : Fin 3) (r : Fin 384) (s : Fin 256) :
    (host2 V (Proc.devRef .tc main_v208) (ix3 k r s) : EReal) = bandW 1 10 32 w k (128 + r) ((256 + s) % 64) ((256 + s) / 64) := by
  have e : host2 V (Proc.devRef .tc main_v208) (ix3 k r s)
      = host2 V (Proc.devRef .tc main_v178) (ix3 k (⟨128 + r, by omega⟩ : Fin 704) (⟨256 + s, by omega⟩ : Fin 768)) := by
    unfold host2
    after_reads_at
  exact e.trans (bw2 V w hw k _ _)

theorem group2c (w : Act) (hw : ∀ (d : Fin 64) (c : Fin 32) (kh kw : Fin 3), (V (Proc.devRef .tc main_arg3) (ix4 d c kh kw) : EReal) = w d c kh kw)
    (k : Fin 3) (r : Fin 320) (s : Fin 256) :
    (host2 V (Proc.devRef .tc main_v209) (ix3 k r s) : EReal) = bandW 1 10 32 w k (384 + r) ((512 + s) % 64) ((512 + s) / 64) := by
  have e : host2 V (Proc.devRef .tc main_v209) (ix3 k r s)
      = host2 V (Proc.devRef .tc main_v178) (ix3 k (⟨384 + r, by omega⟩ : Fin 704) (⟨512 + s, by omega⟩ : Fin 768)) := by
    unfold host2
    after_reads_at
  exact e.trans (bw2 V w hw k _ _)

/-- The lanes' scales. -/
theorem gl2 (g : ℕ → EReal) (hg : ∀ d : Fin 64, (V (Proc.devRef .tc main_arg6) (ix1 d) : EReal) = g d.val) (s : Fin 768) :
    (host2 V (Proc.devRef .tc main_v189) (ix2 0 s) : EReal) = if 1 ≤ s.val / 64 ∧ s.val / 64 < 10 + 1 then g (s.val % 64) else 0 := by
  unfold host2
  after_reads_at
  refine lanes_at (R := 12) (C := 64) (U := 10) scatter_S12x64_S1_S10x64_01_n_0_0 rfl rfl rfl rfl _ _ (by rfl) _ g (fun p q => ?_) (fun r s => ?_) _ _
  · pointwise
    exact hg q
  · pointwise

/-- The lanes' shifts. -/
theorem bl2 (g : ℕ → EReal) (hg : ∀ d : Fin 64, (V (Proc.devRef .tc main_arg9) (ix1 d) : EReal) = g d.val) (s : Fin 768) :
    (host2 V (Proc.devRef .tc main_v190) (ix2 0 s) : EReal) = if 1 ≤ s.val / 64 ∧ s.val / 64 < 10 + 1 then g (s.val % 64) else 0 := by
  unfold host2
  after_reads_at
  refine lanes_at (R := 12) (C := 64) (U := 10) scatter_S12x64_S1_S10x64_01_n_0_0 rfl rfl rfl rfl _ _ (by rfl) _ g (fun p q => ?_) (fun r s => ?_) _ _
  · pointwise
    exact hg q
  · pointwise

theorem perm2 (n u : Fin 128) : (host2 V (Proc.devRef .tc main_v206) (ix2 n u) : EReal) = (if (u : ℕ) = evenOdd 128 n then 1 else 0 : EReal) := by
  unfold host2
  after_reads_at
  exact perm_at (.inl rfl) n.2 u.2 _ _ rfl rfl

end Cert.KernelIdeal.Val

end
-- ==== Proof.Value.lean ====
/- The kernel's result, from the launch memory: three convolution layers, one after another. -/
module

public import proofs.«01_k».proof.Proof.Arr0
public import proofs.«01_k».proof.Proof.Arr1
public import proofs.«01_k».proof.Proof.Arr2
public import proofs.«01_k».proof.Proof.Host0
public import proofs.«01_k».proof.Proof.Host1
public import proofs.«01_k».proof.Proof.Host2

@[expose] public section

set_option maxRecDepth 16384
set_option maxHeartbeats 4000000

noncomputable section

namespace Cert.KernelIdeal.Val

open Idealize.ShloMosaic Idealize.ShloMosaic.TcCoe Idealize.SL.Sem Idealize.ShloMosaic.StableHlo
open Cert.KernelIdeal Cert.KernelIdeal.Gen Cert.Enc

/-- An array of four axes, zero outside. -/
def act4 {a b c d : ℕ} (v : (⟨4, ![a, b, c, d]⟩ : Shape).Idx → EReal) : Act := fun i j k l =>
  if h : (i < a ∧ j < b) ∧ k < c ∧ l < d then v (ix4 ⟨i, h.1.1⟩ ⟨j, h.1.2⟩ ⟨k, h.2.1⟩ ⟨l, h.2.2⟩) else 0

theorem act4_at {a b c d : ℕ} (v : (⟨4, ![a, b, c, d]⟩ : Shape).Idx → EReal) (i : Fin a) (j : Fin b) (k : Fin c) (l : Fin d) :
    v (ix4 i j k l) = act4 v i j k l := by
  rw [act4, dif_pos ⟨⟨i.2, j.2⟩, k.2, l.2⟩]

/-- An array of images of one channel, zero outside. -/
def act3 {a c d : ℕ} (v : (⟨3, ![a, c, d]⟩ : Shape).Idx → EReal) : Act := fun i _ k l =>
  if h : i < a ∧ k < c ∧ l < d then v (ix3 ⟨i, h.1⟩ ⟨k, h.2.1⟩ ⟨l, h.2.2⟩) else 0

theorem act3_at {a c d : ℕ} (v : (⟨3, ![a, c, d]⟩ : Shape).Idx → EReal) (i : Fin a) (j : ℕ) (k : Fin c) (l : Fin d) :
    v (ix3 i k l) = act3 v i j k l := by
  rw [act3, dif_pos ⟨i.2, k.2, l.2⟩]

theorem within_act3 {a c d : ℕ} (v : (⟨3, ![a, c, d]⟩ : Shape).Idx → EReal) : Within c d (act3 v) := fun n _ y j h => by
  rw [act3, dif_neg fun h' => h h'.2]

/-- A vector, zero outside. -/
def vec1 {a : ℕ} (v : (⟨1, ![a]⟩ : Shape).Idx → EReal) : ℕ → EReal := fun i => if h : i < a then v (ix1 ⟨i, h⟩) else 0

theorem vec1_at {a : ℕ} (v : (⟨1, ![a]⟩ : Shape).Idx → EReal) (i : Fin a) : v (ix1 i) = vec1 v i := by
  rw [vec1, dif_pos i.2]

section
variable (m : (ℓ : Loc nD τ sig) → Buf (Elt Ideal) ℓ) (ρ : Dev nD → PrngReg) (c : Dev nD)

/-- The input and the layers' outputs, from the launch memory. -/
def inp : Act := act3 (a := 32) (c := 1024) (d := 80) (m ((c : Thread nD τ).loc main_arg0))
def w0 : Act := act4 (a := 32) (b := 1) (c := 3) (d := 3) (m ((c : Thread nD τ).loc main_arg1))
def w1 : Act := act4 (a := 32) (b := 32) (c := 3) (d := 3) (m ((c : Thread nD τ).loc main_arg2))
def w2 : Act := act4 (a := 64) (b := 32) (c := 3) (d := 3) (m ((c : Thread nD τ).loc main_arg3))
def g0 : ℕ → EReal := vec1 (a := 32) (m ((c : Thread nD τ).loc main_arg4))
def g1 : ℕ → EReal := vec1 (a := 32) (m ((c : Thread nD τ).loc main_arg5))
def g2 : ℕ → EReal := vec1 (a := 64) (m ((c : Thread nD τ).loc main_arg6))
def b0 : ℕ → EReal := vec1 (a := 32) (m ((c : Thread nD τ).loc main_arg7))
def b1 : ℕ → EReal := vec1 (a := 32) (m ((c : Thread nD τ).loc main_arg8))
def b2 : ℕ → EReal := vec1 (a := 64) (m ((c : Thread nD τ).loc main_arg9))
def y0 : Act := conv 1 512 40 (inp m c) (w0 m c) (g0 m c) (b0 m c)
def y1 : Act := conv 32 256 20 (y0 m c) (w1 m c) (g1 m c) (b1 m c)
def y2 : Act := conv 32 128 10 (y1 m c) (w2 m c) (g2 m c) (b2 m c)

/-! The first layer. -/

theorem w0_at (d : Fin 32) (e : Fin 1) (p q : Fin 3) : (W0 m ρ c (Proc.devRef .tc main_arg1) (ix4 d e p q) : EReal) = w0 m c d e p q :=
  act4_at (a := 32) (b := 1) (c := 3) (d := 3) (m ((c : Thread nD τ).loc main_arg1)) d e p q
theorem inp_at (n : Fin 32) (e : Fin 1) (y : Fin 1024) (j : Fin 80) : (W0 m ρ c (Proc.devRef .tc main_arg0) (ix3 n y j) : EReal) = inp m c n e y j :=
  act3_at (a := 32) (c := 1024) (d := 80) (m ((c : Thread nD τ).loc main_arg0)) n e y j
theorem g0_at (d : Fin 32) : (W0 m ρ c (Proc.devRef .tc main_arg4) (ix1 d) : EReal) = g0 m c d :=
  vec1_at (a := 32) (m ((c : Thread nD τ).loc main_arg4)) d
theorem b0_at (d : Fin 32) : (W0 m ρ c (Proc.devRef .tc main_arg7) (ix1 d) : EReal) = b0 m c d :=
  vec1_at (a := 32) (m ((c : Thread nD τ).loc main_arg7)) d

theorem even1 (n : Fin 32) (u : Fin 257) (s : Fin 1344) :
    (W8 m ρ c (Proc.devRef .tc main_v70_0) (ix3 n u s) : EReal) = pl 32 (y0 m c) n (2 * u) s :=
  (congrFun (W8_arr m ρ c 6) _).trans (arr0_6 (V7 m ρ) c (inp m c) (w0 m c) (g0 m c) (b0 m c)
    (even0 (W0 m ρ c) _ (inp_at m ρ c) (within_act3 _)) (odd0 (W0 m ρ c) _ (inp_at m ρ c) (within_act3 _)) (bw0 (W0 m ρ c) _ (w0_at m ρ c))
    (gl0 (W0 m ρ c) _ (g0_at m ρ c)) (bl0 (W0 m ρ c) _ (b0_at m ρ c)) (perm0 (W0 m ρ c)) n u s)

theorem odd1 (n : Fin 32) (u : Fin 257) (s : Fin 1344) :
    (W8 m ρ c (Proc.devRef .tc main_v70_1) (ix3 n u s) : EReal) = pl 32 (y0 m c) n (2 * u + 1) s :=
  (congrFun (W8_arr m ρ c 7) _).trans (arr0_7 (V7 m ρ) c (inp m c) (w0 m c) (g0 m c) (b0 m c)
    (even0 (W0 m ρ c) _ (inp_at m ρ c) (within_act3 _)) (odd0 (W0 m ρ c) _ (inp_at m ρ c) (within_act3 _)) (bw0 (W0 m ρ c) _ (w0_at m ρ c))
    (gl0 (W0 m ρ c) _ (g0_at m ρ c)) (bl0 (W0 m ρ c) _ (b0_at m ρ c)) (perm0 (W0 m ρ c)) n u s)

/-! The second layer. -/

theorem keep13 (r : Ref sig .tc) (h0 : r ∉ hostOps1_W) (h1 : r ∉ hostOps1_1_W) (h2 : r ∉ hostOps1_2_W) (h3 : r ∉ hostOps1_3_W) (h4 : r ∉ hostOps1_4_W) :
    W13 m ρ c (Proc.devRef .tc r) = W8 m ρ c (Proc.devRef .tc r) :=
  (W13_of m ρ c r h4).trans ((W12_of m ρ c r h3).trans ((W11_of m ρ c r h2).trans ((W10_of m ρ c r h1).trans (W9_of m ρ c r h0))))

theorem w1_at (d : Fin 32) (e : Fin 32) (p q : Fin 3) : (W8 m ρ c (Proc.devRef .tc main_arg2) (ix4 d e p q) : EReal) = w1 m c d e p q :=
  (congrFun (W8_args m ρ c main_arg2 (by decide)) _).trans (act4_at (a := 32) (b := 32) (c := 3) (d := 3) (m ((c : Thread nD τ).loc main_arg2)) d e p q)
theorem g1_at (d : Fin 32) : (W8 m ρ c (Proc.devRef .tc main_arg5) (ix1 d) : EReal) = g1 m c d :=
  (congrFun (W8_args m ρ c main_arg5 (by decide)) _).trans (vec1_at (a := 32) (m ((c : Thread nD τ).loc main_arg5)) d)
theorem b1_at (d : Fin 32) : (W8 m ρ c (Proc.devRef .tc main_arg8) (ix1 d) : EReal) = b1 m c d :=
  (congrFun (W8_args m ρ c main_arg8 (by decide)) _).trans (vec1_at (a := 32) (m ((c : Thread nD τ).loc main_arg8)) d)

theorem even1' (n : Fin 32) (u : Fin 257) (s : Fin 1344) :
    (V13 m ρ c main_v70_0 (ix3 n u s) : EReal) = pl 32 (y0 m c) n (2 * u) s :=
  (congrFun (keep13 m ρ c main_v70_0 (by decide) (by decide) (by decide) (by decide) (by decide)) _).trans (even1 m ρ c n u s)
theorem odd1' (n : Fin 32) (u : Fin 257) (s : Fin 1344) :
    (V13 m ρ c main_v70_1 (ix3 n u s) : EReal) = pl 32 (y0 m c) n (2 * u + 1) s :=
  (congrFun (keep13 m ρ c main_v70_1 (by decide) (by decide) (by decide) (by decide) (by decide)) _).trans (odd1 m ρ c n u s)

theorem even2 (n : Fin 32) (u : Fin 129) (s : Fin 704) :
    (W14 m ρ c (Proc.devRef .tc main_v140_0) (ix3 n u s) : EReal) = pl 32 (y1 m c) n (2 * u) s :=
  (congrFun (W14_arr m ρ c 8) _).trans (arr1_8 (V13 m ρ) c (y0 m c) (w1 m c) (g1 m c) (b1 m c) (even1' m ρ c) (odd1' m ρ c)
    (group1a (W8 m ρ c) _ (w1_at m ρ c)) (group1b (W8 m ρ c) _ (w1_at m ρ c)) (group1c (W8 m ρ c) _ (w1_at m ρ c))
    (gl1 (W8 m ρ c) _ (g1_at m ρ c)) (bl1 (W8 m ρ c) _ (b1_at m ρ c)) (perm1 (W8 m ρ c)) n u s)

theorem odd2 (n : Fin 32) (u : Fin 129) (s : Fin 704) :
    (W14 m ρ c (Proc.devRef .tc main_v140_1) (ix3 n u s) : EReal) = pl 32 (y1 m c) n (2 * u + 1) s :=
  (congrFun (W14_arr m ρ c 9) _).trans (arr1_9 (V13 m ρ) c (y0 m c) (w1 m c) (g1 m c) (b1 m c) (even1' m ρ c) (odd1' m ρ c)
    (group1a (W8 m ρ c) _ (w1_at m ρ c)) (group1b (W8 m ρ c) _ (w1_at m ρ c)) (group1c (W8 m ρ c) _ (w1_at m ρ c))
    (gl1 (W8 m ρ c) _ (g1_at m ρ c)) (bl1 (W8 m ρ c) _ (b1_at m ρ c)) (perm1 (W8 m ρ c)) n u s)

/-! The third layer. -/

theorem keep19 (r : Ref sig .tc) (h0 : r ∉ hostOps2_W) (h1 : r ∉ hostOps2_1_W) (h2 : r ∉ hostOps2_2_W) (h3 : r ∉ hostOps2_3_W) (h4 : r ∉ hostOps2_4_W) :
    W19 m ρ c (Proc.devRef .tc r) = W14 m ρ c (Proc.devRef .tc r) :=
  (W19_of m ρ c r h4).trans ((W18_of m ρ c r h3).trans ((W17_of m ρ c r h2).trans ((W16_of m ρ c r h1).trans (W15_of m ρ c r h0))))

theorem w2_at (d : Fin 64) (e : Fin 32) (p q : Fin 3) : (W14 m ρ c (Proc.devRef .tc main_arg3) (ix4 d e p q) : EReal) = w2 m c d e p q :=
  (congrFun (W14_args m ρ c main_arg3 (by decide)) _).trans (act4_at (a := 64) (b := 32) (c := 3) (d := 3) (m ((c : Thread nD τ).loc main_arg3)) d e p q)
theorem g2_at (d : Fin 64) : (W14 m ρ c (Proc.devRef .tc main_arg6) (ix1 d) : EReal) = g2 m c d :=
  (congrFun (W14_args m ρ c main_arg6 (by decide)) _).trans (vec1_at (a := 64) (m ((c : Thread nD τ).loc main_arg6)) d)
theorem b2_at (d : Fin 64) : (W14 m ρ c (Proc.devRef .tc main_arg9) (ix1 d) : EReal) = b2 m c d :=
  (congrFun (W14_args m ρ c main_arg9 (by decide)) _).trans (vec1_at (a := 64) (m ((c : Thread nD τ).loc main_arg9)) d)

theorem even2' (n : Fin 32) (u : Fin 129) (s : Fin 704) :
    (V19 m ρ c main_v140_0 (ix3 n u s) : EReal) = pl 32 (y1 m c) n (2 * u) s :=
  (congrFun (keep19 m ρ c main_v140_0 (by decide) (by decide) (by decide) (by decide) (by decide)) _).trans (even2 m ρ c n u s)
theorem odd2' (n : Fin 32) (u : Fin 129) (s : Fin 704) :
    (V19 m ρ c main_v140_1 (ix3 n u s) : EReal) = pl 32 (y1 m c) n (2 * u + 1) s :=
  (congrFun (keep19 m ρ c main_v140_1 (by decide) (by decide) (by decide) (by decide) (by decide)) _).trans (odd2 m ρ c n u s)

theorem even3 (n : Fin 32) (u : Fin 65) (s : Fin 768) :
    (W20 m ρ c (Proc.devRef .tc main_v210_0) (ix3 n u s) : EReal) = pl 64 (y2 m c) n (2 * u) s :=
  (congrFun (W20_arr m ρ c 8) _).trans (arr2_8 (V19 m ρ) c (y1 m c) (w2 m c) (g2 m c) (b2 m c) (even2' m ρ c) (odd2' m ρ c)
    (group2a (W14 m ρ c) _ (w2_at m ρ c)) (group2b (W14 m ρ c) _ (w2_at m ρ c)) (group2c (W14 m ρ c) _ (w2_at m ρ c))
    (gl2 (W14 m ρ c) _ (g2_at m ρ c)) (bl2 (W14 m ρ c) _ (b2_at m ρ c)) (perm2 (W14 m ρ c)) n u s)

theorem odd3 (n : Fin 32) (u : Fin 65) (s : Fin 768) :
    (W20 m ρ c (Proc.devRef .tc main_v210_1) (ix3 n u s) : EReal) = pl 64 (y2 m c) n (2 * u + 1) s :=
  (congrFun (W20_arr m ρ c 9) _).trans (arr2_9 (V19 m ρ) c (y1 m c) (w2 m c) (g2 m c) (b2 m c) (even2' m ρ c) (odd2' m ρ c)
    (group2a (W14 m ρ c) _ (w2_at m ρ c)) (group2b (W14 m ρ c) _ (w2_at m ρ c)) (group2c (W14 m ρ c) _ (w2_at m ρ c))
    (gl2 (W14 m ρ c) _ (g2_at m ρ c)) (bl2 (W14 m ρ c) _ (b2_at m ρ c)) (perm2 (W14 m ρ c)) n u s)

theorem pl_lane (x : Act) (n k y j Y s : ℕ) (hY : Y = y + 1) (hs : s / 64 = j + 1 ∧ s % 64 = k) : pl 64 x n Y s = x n k y j := by
  rw [pl, padA, hs.1, hs.2, hY, if_pos (by omega), Nat.add_sub_cancel, Nat.add_sub_cancel]

/-- The result, element by element. -/
theorem result_at (n : Fin 32) (k : Fin 64) (y : Fin 128) (j : Fin 10) :
    (W21 m ρ c (Proc.devRef .tc main_v219) (ix4 n k y j) : EReal) = y2 m c n k y j := by
  have hk := k.2
  have hy := y.2
  have hj := j.2
  after_reads_at
  split
  · after_reads_at
    refine (odd3 m ρ c _ _ _).trans (pl_lane _ _ _ _ _ _ _ ?_ ?_) <;> dsimp only <;> omega
  · after_reads_at
    refine (even3 m ρ c _ _ _).trans (pl_lane _ _ _ _ _ _ _ ?_ ?_) <;> dsimp only <;> omega

end

end Cert.KernelIdeal.Val

end
-- ==== Proof.HostRun.lean ====
/- A straight-line host program written with calls of its own functions, as the list of its operations: each function's body is read
   once, by instances that follow its statements, and a call is its body's list at the call's buffers. -/
module

public import Idealize.ShloMosaic.Lib.StableHlo.Run
public import Idealize.ShloMosaic.Lib.StableHlo.ReadAt

@[expose] public section

noncomputable section

namespace Cert.HostRun

open Idealize.ShloMosaic Idealize.ShloMosaic.TcCoe Idealize.SL.Sem Idealize.ShloMosaic.StableHlo

variable {nD : ℕ} {τ : Topo} {sig : RefSig} {Val : EltTy → Type} {Λ : Labels}

/-- One operation: the buffer it writes, and that it touches the device's own buffers alone and determines its result. -/
class HostOp (op : HloOp τ sig Val) where
  out : Ref sig .tc
  writes : op.writes = {Proc.devRef .tc out}
  sub : op.bufs ⊆ tcRefs τ sig
  fresh : op.fresh = ∅

section Ops
variable {x a b c e y : Ref sig .tc}

instance (v : y.ty.Contents Val) (hy) : HostOp (nullary (τ := τ) y v hy) := ⟨y, rfl, by simp, rfl⟩
instance (f : x.ty.Contents Val → y.ty.Contents Val) (hx hy) : HostOp (unary (τ := τ) x y f hx hy) :=
  ⟨y, rfl, by simp, rfl⟩
instance (f : a.ty.Contents Val → b.ty.Contents Val → y.ty.Contents Val) (ha hb hy) : HostOp (binary (τ := τ) a b y f ha hb hy) :=
  ⟨y, rfl, by simp, rfl⟩
instance (f : c.ty.Contents Val → a.ty.Contents Val → b.ty.Contents Val → y.ty.Contents Val) (hc ha hb hy) :
    HostOp (ternary (τ := τ) c a b y f hc ha hb hy) := ⟨y, rfl, by simp, rfl⟩
instance (f : a.ty.Contents Val → b.ty.Contents Val → c.ty.Contents Val → e.ty.Contents Val → y.ty.Contents Val) (ha hb hc he hy) :
    HostOp (quaternary (τ := τ) a b c e y f ha hb hc he hy) := ⟨y, rfl, by simp, rfl⟩
instance (he hn hx hy) : HostOp (reshape (τ := τ) (Val := Val) x y he hn hx hy) := ⟨y, rfl, by simp, rfl⟩
instance {n : ℕ} (xs : Fin n → Ref sig .tc) (f : ((k : Fin n) → (xs k).ty.Contents Val) → y.ty.Contents Val) (hxs hy) :
    HostOp (nary (τ := τ) xs y f hxs hy) := ⟨y, rfl, by simp, rfl⟩

end Ops

/-- A program that is a line of operations. -/
class HostProg (p : Prog (TpuEff nD τ sig Val Λ .tc) PUnit) where
  ops : List (HloOp τ sig Val)
  outs : List (Ref sig .tc)
  eq_seq : p = seq ops
  writes : ∀ op ∈ ops, ∃ y ∈ outs, op.writes = {Proc.devRef .tc y}
  sub : ∀ op ∈ ops, op.bufs ⊆ tcRefs τ sig
  fresh : ∀ op ∈ ops, op.fresh = ∅

instance instRet : HostProg (pure ⟨⟩ : Prog (TpuEff nD τ sig Val Λ .tc) PUnit) where
  ops := []
  outs := []
  eq_seq := rfl
  writes := fun _ h => absurd h List.not_mem_nil
  sub := fun _ h => absurd h List.not_mem_nil
  fresh := fun _ h => absurd h List.not_mem_nil

instance instHlo (op : HloOp τ sig Val) [h : HostOp op] :
    HostProg (hlo rfl op (fun _ => .ret ⟨⟩) : Prog (TpuEff nD τ sig Val Λ .tc) PUnit) where
  ops := [op]
  outs := [h.out]
  eq_seq := rfl
  writes := fun o ho => ⟨h.out, List.mem_singleton.2 rfl, by rw [List.mem_singleton.1 ho, h.writes]⟩
  sub := fun o ho => by rw [List.mem_singleton.1 ho]; exact h.sub
  fresh := fun o ho => by rw [List.mem_singleton.1 ho]; exact h.fresh

instance instBind (p q : Prog (TpuEff nD τ sig Val Λ .tc) PUnit) [hp : HostProg p] [hq : HostProg q] :
    HostProg (p >>= fun _ => q) where
  ops := hp.ops ++ hq.ops
  outs := hp.outs ++ hq.outs
  eq_seq := by rw [seq_append, ← hp.eq_seq, ← hq.eq_seq]
  writes := fun o ho => by
    rcases List.mem_append.1 ho with h | h
    · obtain ⟨y, hy, e⟩ := hp.writes o h
      exact ⟨y, List.mem_append_left _ hy, e⟩
    · obtain ⟨y, hy, e⟩ := hq.writes o h
      exact ⟨y, List.mem_append_right _ hy, e⟩
  sub := fun o ho => (List.mem_append.1 ho).elim (hp.sub o) (hq.sub o)
  fresh := fun o ho => (List.mem_append.1 ho).elim (hp.fresh o) (hq.fresh o)

/-- What the device's buffers hold after the program, from `V`. -/
def run (p : Prog (TpuEff nD τ sig Val Λ .tc) PUnit) [HostProg p] (V : Valuation τ sig Val) : Valuation τ sig Val :=
  after (HostProg.ops p) V

theorem run_bind (p q : Prog (TpuEff nD τ sig Val Λ .tc) PUnit) [HostProg p] [HostProg q] (V : Valuation τ sig Val) :
    run (p >>= fun _ => q) V = run q (run p V) := by
  show after (HostProg.ops p ++ HostProg.ops q) V = after (HostProg.ops q) (after (HostProg.ops p) V)
  generalize HostProg.ops p = l
  induction l generalizing V with
  | nil => rfl
  | cons o l ih => exact ih _

theorem run_hlo (op : HloOp τ sig Val) [HostOp op] (V : Valuation τ sig Val) :
    run (hlo rfl op (fun _ => .ret ⟨⟩) : Prog (TpuEff nD τ sig Val Λ .tc) PUnit) V = op.result V := rfl

theorem run_ret (V : Valuation τ sig Val) : run (pure ⟨⟩ : Prog (TpuEff nD τ sig Val Λ .tc) PUnit) V = V := rfl

/-- A buffer the program does not write keeps its contents. -/
theorem run_keep (p : Prog (TpuEff nD τ sig Val Λ .tc) PUnit) [HostProg p] (V : Valuation τ sig Val) (r : Ref sig .tc)
    (h : r ∉ HostProg.outs p) : run p V (Proc.devRef .tc r) = V (Proc.devRef .tc r) :=
  after_of_forall_not_mem _ V fun op hop hb => by
    obtain ⟨y, hy, e⟩ := HostProg.writes (p := p) op hop
    rw [e, Finset.mem_singleton] at hb
    exact h (Proc.devRef_injective _ hb ▸ hy)

end Cert.HostRun

end
-- ==== Proof.RefRun.lean ====
/- The reference as a line of operations. -/
module

public import proofs.«01_k».proof.ReferenceIdeal
public import proofs.«01_k».proof.Proof.HostRun
public import Idealize.ShloMosaic.Lib.Pointwise

@[expose] public section

set_option maxRecDepth 16384
set_option synthInstance.maxHeartbeats 4000000
set_option synthInstance.maxSize 100000
set_option maxHeartbeats 4000000

noncomputable section

namespace Cert.ReferenceIdeal

open Idealize.ShloMosaic Idealize.ShloMosaic.TcCoe Idealize.SL.Sem Idealize.ShloMosaic.StableHlo Cert.HostRun

variable {F : FTy → Type} [FloatOps F] [Facts]

instance conv0_body_part0 (a0 a1 a2 a3 φ) : HostProg (fn_conv_bn_relu.body_part0 (F := F) a0 a1 a2 a3 φ) := by
  delta fn_conv_bn_relu.body_part0; infer_instance
instance conv0_body_part1 (a0 a1 a2 a3 φ) : HostProg (fn_conv_bn_relu.body_part1 (F := F) a0 a1 a2 a3 φ) := by
  delta fn_conv_bn_relu.body_part1; infer_instance
instance conv0_body (a0 a1 a2 a3 φ) : HostProg (fn_conv_bn_relu.body (F := F) a0 a1 a2 a3 φ) := by
  delta fn_conv_bn_relu.body; infer_instance
instance conv1_body_part0 (a0 a1 a2 a3 φ) : HostProg (fn_conv_bn_relu_0.body_part0 (F := F) a0 a1 a2 a3 φ) := by
  delta fn_conv_bn_relu_0.body_part0; infer_instance
instance conv1_body_part1 (a0 a1 a2 a3 φ) : HostProg (fn_conv_bn_relu_0.body_part1 (F := F) a0 a1 a2 a3 φ) := by
  delta fn_conv_bn_relu_0.body_part1; infer_instance
instance conv1_body (a0 a1 a2 a3 φ) : HostProg (fn_conv_bn_relu_0.body (F := F) a0 a1 a2 a3 φ) := by
  delta fn_conv_bn_relu_0.body; infer_instance
instance conv2_body_part0 (a0 a1 a2 a3 φ) : HostProg (fn_conv_bn_relu_1.body_part0 (F := F) a0 a1 a2 a3 φ) := by
  delta fn_conv_bn_relu_1.body_part0; infer_instance
instance conv2_body_part1 (a0 a1 a2 a3 φ) : HostProg (fn_conv_bn_relu_1.body_part1 (F := F) a0 a1 a2 a3 φ) := by
  delta fn_conv_bn_relu_1.body_part1; infer_instance
instance conv2_body (a0 a1 a2 a3 φ) : HostProg (fn_conv_bn_relu_1.body (F := F) a0 a1 a2 a3 φ) := by
  delta fn_conv_bn_relu_1.body; infer_instance
instance mainHost (c) : HostProg (main (F := F) c) := by
  delta main; infer_instance

end Cert.ReferenceIdeal

end
-- ==== Proof.RefConv.lean ====
/- What each of the reference's convolution layers leaves, read off its operations. -/
module

public import proofs.«01_k».proof.Proof.RefRun
public import proofs.«01_k».proof.Proof.RefMath

@[expose] public section

set_option maxRecDepth 16384

noncomputable section

namespace Cert.ReferenceIdeal.Val

open Idealize.ShloMosaic Idealize.ShloMosaic.TcCoe Idealize.SL.Sem Idealize.ShloMosaic.StableHlo Cert.HostRun
open Cert.ReferenceIdeal Cert.Enc

variable [Facts]

set_option maxHeartbeats 4000000

theorem layer0 (V : Valuation τ sig (Elt Ideal)) (x w : Act) (g b : ℕ → EReal) (hx : Within 1024 80 x)
    (h0 : ∀ (n : Fin 32) (c : Fin 1) (y : Fin 1024) (j : Fin 80), (V (Proc.devRef .tc main_v0) (ix4 n c y j) : EReal) = x n c y j)
    (h1 : ∀ (d : Fin 32) (c : Fin 1) (p q : Fin 3), (V (Proc.devRef .tc main_arg1) (ix4 d c p q) : EReal) = w d c p q)
    (h2 : ∀ d : Fin 32, (V (Proc.devRef .tc main_arg4) (ix1 d) : EReal) = g d)
    (h3 : ∀ d : Fin 32, (V (Proc.devRef .tc main_arg7) (ix1 d) : EReal) = b d)
    (n : Fin 32) (d : Fin 32) (y : Fin 512) (j : Fin 40) :
    (run (fn_conv_bn_relu.body (F := Ideal) (.of main_v0) (.of main_arg1) (.of main_arg4) (.of main_arg7) main_call0) V
      (Proc.devRef .tc main_v1) (ix4 n d y j) : EReal) = conv 1 512 40 x w g b n d y j := by
  have hy := y.2
  have hj := j.2
  simp only [run, conv0_body, conv0_body_part0, conv0_body_part1, HostProg.ops, instBind, instHlo, instRet, List.cons_append,
    List.nil_append, List.append_nil]
  after_reads_at
  simp only [h0, dite_eq_ite]
  refine conv_of_taps y.2 j.2 (h2 d) (h3 d) (sqrt_bn _ _) (Fin.forall_fin_one.2 (tap hx _ _ ?_ ?_ ?_ (h1 d 0 0 0))) (Fin.forall_fin_one.2 (tap hx _ _ ?_ ?_ ?_ (h1 d 0 0 1)))
    (Fin.forall_fin_one.2 (tap hx _ _ ?_ ?_ ?_ (h1 d 0 0 2))) (Fin.forall_fin_one.2 (tap hx _ _ ?_ ?_ ?_ (h1 d 0 1 0))) (Fin.forall_fin_one.2 (tap hx _ _ ?_ ?_ ?_ (h1 d 0 1 1)))
    (Fin.forall_fin_one.2 (tap hx _ _ ?_ ?_ ?_ (h1 d 0 1 2))) (Fin.forall_fin_one.2 (tap hx _ _ ?_ ?_ ?_ (h1 d 0 2 0))) (Fin.forall_fin_one.2 (tap hx _ _ ?_ ?_ ?_ (h1 d 0 2 1)))
    (Fin.forall_fin_one.2 (tap hx _ _ ?_ ?_ ?_ (h1 d 0 2 2))) <;> omega

theorem layer1 (V : Valuation τ sig (Elt Ideal)) (x w : Act) (g b : ℕ → EReal) (hx : Within 512 40 x)
    (h0 : ∀ (n : Fin 32) (c : Fin 32) (y : Fin 512) (j : Fin 40), (V (Proc.devRef .tc main_v1) (ix4 n c y j) : EReal) = x n c y j)
    (h1 : ∀ (d : Fin 32) (c : Fin 32) (p q : Fin 3), (V (Proc.devRef .tc main_arg2) (ix4 d c p q) : EReal) = w d c p q)
    (h2 : ∀ d : Fin 32, (V (Proc.devRef .tc main_arg5) (ix1 d) : EReal) = g d)
    (h3 : ∀ d : Fin 32, (V (Proc.devRef .tc main_arg8) (ix1 d) : EReal) = b d)
    (n : Fin 32) (d : Fin 32) (y : Fin 256) (j : Fin 20) :
    (run (fn_conv_bn_relu_0.body (F := Ideal) (.of main_v1) (.of main_arg2) (.of main_arg5) (.of main_arg8) main_call1) V
      (Proc.devRef .tc main_v2) (ix4 n d y j) : EReal) = conv 32 256 20 x w g b n d y j := by
  have hy := y.2
  have hj := j.2
  simp only [run, conv1_body, conv1_body_part0, conv1_body_part1, HostProg.ops, instBind, instHlo, instRet, List.cons_append,
    List.nil_append, List.append_nil]
  after_reads_at
  simp only [h0, dite_eq_ite]
  refine conv_of_taps y.2 j.2 (h2 d) (h3 d) (sqrt_bn _ _) (fun c => tap hx _ _ ?_ ?_ ?_ (h1 d c 0 0)) (fun c => tap hx _ _ ?_ ?_ ?_ (h1 d c 0 1))
    (fun c => tap hx _ _ ?_ ?_ ?_ (h1 d c 0 2)) (fun c => tap hx _ _ ?_ ?_ ?_ (h1 d c 1 0)) (fun c => tap hx _ _ ?_ ?_ ?_ (h1 d c 1 1))
    (fun c => tap hx _ _ ?_ ?_ ?_ (h1 d c 1 2)) (fun c => tap hx _ _ ?_ ?_ ?_ (h1 d c 2 0)) (fun c => tap hx _ _ ?_ ?_ ?_ (h1 d c 2 1))
    (fun c => tap hx _ _ ?_ ?_ ?_ (h1 d c 2 2)) <;> omega

theorem layer2 (V : Valuation τ sig (Elt Ideal)) (x w : Act) (g b : ℕ → EReal) (hx : Within 256 20 x)
    (h0 : ∀ (n : Fin 32) (c : Fin 32) (y : Fin 256) (j : Fin 20), (V (Proc.devRef .tc main_v2) (ix4 n c y j) : EReal) = x n c y j)
    (h1 : ∀ (d : Fin 64) (c : Fin 32) (p q : Fin 3), (V (Proc.devRef .tc main_arg3) (ix4 d c p q) : EReal) = w d c p q)
    (h2 : ∀ d : Fin 64, (V (Proc.devRef .tc main_arg6) (ix1 d) : EReal) = g d)
    (h3 : ∀ d : Fin 64, (V (Proc.devRef .tc main_arg9) (ix1 d) : EReal) = b d)
    (n : Fin 32) (d : Fin 64) (y : Fin 128) (j : Fin 10) :
    (run (fn_conv_bn_relu_1.body (F := Ideal) (.of main_v2) (.of main_arg3) (.of main_arg6) (.of main_arg9) main_call2) V
      (Proc.devRef .tc main_v3) (ix4 n d y j) : EReal) = conv 32 128 10 x w g b n d y j := by
  have hy := y.2
  have hj := j.2
  simp only [run, conv2_body, conv2_body_part0, conv2_body_part1, HostProg.ops, instBind, instHlo, instRet, List.cons_append,
    List.nil_append, List.append_nil]
  after_reads_at
  simp only [h0, dite_eq_ite]
  refine conv_of_taps y.2 j.2 (h2 d) (h3 d) (sqrt_bn _ _) (fun c => tap hx _ _ ?_ ?_ ?_ (h1 d c 0 0)) (fun c => tap hx _ _ ?_ ?_ ?_ (h1 d c 0 1))
    (fun c => tap hx _ _ ?_ ?_ ?_ (h1 d c 0 2)) (fun c => tap hx _ _ ?_ ?_ ?_ (h1 d c 1 0)) (fun c => tap hx _ _ ?_ ?_ ?_ (h1 d c 1 1))
    (fun c => tap hx _ _ ?_ ?_ ?_ (h1 d c 1 2)) (fun c => tap hx _ _ ?_ ?_ ?_ (h1 d c 2 0)) (fun c => tap hx _ _ ?_ ?_ ?_ (h1 d c 2 1))
    (fun c => tap hx _ _ ?_ ?_ ?_ (h1 d c 2 2)) <;> omega

end Cert.ReferenceIdeal.Val

end
-- ==== Proof.RefMain.lean ====
/- The reference's run, and its result: three layers, one after another. -/
module

public import proofs.«01_k».proof.Defs
public import proofs.«01_k».proof.Proof.RefConv
public import proofs.«01_k».proof.Proof.Gen.ReferenceIdeal

@[expose] public section

set_option maxRecDepth 16384

noncomputable section

namespace Cert.ReferenceIdeal.Val

open Idealize.ShloMosaic Idealize.ShloMosaic.TcCoe Idealize.SL.Sem Idealize.ShloMosaic.StableHlo Cert.HostRun
open Cert.ReferenceIdeal Cert.ReferenceIdeal.Facts₀ Cert.ReferenceIdeal.Facts Cert.Enc

variable [Facts]

set_option maxHeartbeats 4000000

theorem no_scoped : (Finset.univ.filter fun b : Ref sig .tc => b.isScoped) = ∅ := by decide +kernel

theorem no_scoped_sems : (Finset.univ.filter fun sm : SemLoc sig => sm.isScoped .tc) = ∅ := by decide +kernel

/-- The reference's run: every buffer at what the line of operations leaves. -/
theorem run_ops (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = run (main (F := Ideal) d) (launchContents m d) (Proc.devRef .tc b) :=
  run_seq no_scoped no_scoped_sems defs main (fun d => HostProg.ops (main (F := Ideal) d)) (fun d => HostProg.eq_seq)
    (fun d => List.forall_iff_forall_mem.2 (HostProg.sub (p := main (F := Ideal) d))) m ρ
    (fun d => HostProg.fresh (p := main (F := Ideal) d))

/-- Buffers a program does not write keep their contents. -/
theorem keep_of (p : Prog (TpuEff nD τ sig (Elt Ideal) (Pipeline.Sig Λ₀ (Fin 0) fun p => (pcfgs (F := Ideal) p).Adm) .tc) PUnit) [HostProg p]
    (V : Valuation τ sig (Elt Ideal)) (L : List (Ref sig .tc)) (h : decide (∀ a ∈ L, a ∉ HostProg.outs p) = true) :
    ∀ a ∈ L, run p V (Proc.devRef .tc a) = V (Proc.devRef .tc a) :=
  fun a ha => run_keep p V a (of_decide_eq_true h a ha)

/-- The first layer's input. -/
def opIn : Prog (TpuEff nD τ sig (Elt Ideal) (Pipeline.Sig Λ₀ (Fin 0) fun p => (pcfgs (F := Ideal) p).Adm) .tc) PUnit :=
  hlo rfl (StableHlo.unary main_arg0 main_v0 (broadcastInDim S32x1x1024x80 ![0, 2, 3] bcast_S32x1024x80_S32x1x1024x80_0_2_3 : (⟨S32x1024x80, .f32⟩ : BufTy).Contents (Elt Ideal) → (⟨S32x1x1024x80, .f32⟩ : BufTy).Contents (Elt Ideal))) (fun _ => .ret ⟨⟩)

instance opInHost : HostProg opIn := by
  delta opIn; infer_instance

/-- The contents after the first `k` layers. -/
def after0 (V : Valuation τ sig (Elt Ideal)) : Valuation τ sig (Elt Ideal) := run opIn V
def after1 (V : Valuation τ sig (Elt Ideal)) : Valuation τ sig (Elt Ideal) :=
  run (fn_conv_bn_relu.body (F := Ideal) (.of main_v0) (.of main_arg1) (.of main_arg4) (.of main_arg7) main_call0) (after0 V)
def after2 (V : Valuation τ sig (Elt Ideal)) : Valuation τ sig (Elt Ideal) :=
  run (fn_conv_bn_relu_0.body (F := Ideal) (.of main_v1) (.of main_arg2) (.of main_arg5) (.of main_arg8) main_call1) (after1 V)
def after3 (V : Valuation τ sig (Elt Ideal)) : Valuation τ sig (Elt Ideal) :=
  run (fn_conv_bn_relu_1.body (F := Ideal) (.of main_v2) (.of main_arg3) (.of main_arg6) (.of main_arg9) main_call2) (after2 V)

theorem after_append (l l' : List (HloOp τ sig (Elt Ideal))) (V : Valuation τ sig (Elt Ideal)) :
    StableHlo.after (l ++ l') V = StableHlo.after l' (StableHlo.after l V) := by
  induction l generalizing V with
  | nil => rfl
  | cons o l ih => exact ih _

theorem main_ops (d : Dev nD) : HostProg.ops (main (F := Ideal) d) = HostProg.ops opIn
    ++ (HostProg.ops (fn_conv_bn_relu.body (F := Ideal) (.of main_v0) (.of main_arg1) (.of main_arg4) (.of main_arg7) main_call0)
    ++ (HostProg.ops (fn_conv_bn_relu_0.body (F := Ideal) (.of main_v1) (.of main_arg2) (.of main_arg5) (.of main_arg8) main_call1)
    ++ (HostProg.ops (fn_conv_bn_relu_1.body (F := Ideal) (.of main_v2) (.of main_arg3) (.of main_arg6) (.of main_arg9) main_call2) ++ []))) :=
  rfl

theorem run_main (d : Dev nD) (V : Valuation τ sig (Elt Ideal)) : run (main (F := Ideal) d) V = after3 V := by
  rw [run, main_ops, after_append, after_append, after_append, List.append_nil]
  rfl

theorem keep0 (V : Valuation τ sig (Elt Ideal)) : ∀ a ∈ [main_arg0, main_arg1, main_arg2, main_arg3, main_arg4, main_arg5, main_arg6, main_arg7, main_arg8, main_arg9],
    after0 V (Proc.devRef .tc a) = V (Proc.devRef .tc a) := fun a ha =>
  keep_of opIn V
    [main_arg0, main_arg1, main_arg2, main_arg3, main_arg4, main_arg5, main_arg6, main_arg7, main_arg8, main_arg9] (Eq.refl true) a ha

theorem keep1 (V : Valuation τ sig (Elt Ideal)) : ∀ a ∈ [main_arg0, main_arg1, main_arg2, main_arg3, main_arg4, main_arg5, main_arg6, main_arg7, main_arg8, main_arg9],
    after1 V (Proc.devRef .tc a) = V (Proc.devRef .tc a) := fun a ha =>
  (keep_of (fn_conv_bn_relu.body (F := Ideal) (.of main_v0) (.of main_arg1) (.of main_arg4) (.of main_arg7) main_call0) (after0 V)
    [main_arg0, main_arg1, main_arg2, main_arg3, main_arg4, main_arg5, main_arg6, main_arg7, main_arg8, main_arg9] (Eq.refl true) a ha).trans
    (keep0 V a ha)

theorem keep2 (V : Valuation τ sig (Elt Ideal)) : ∀ a ∈ [main_arg0, main_arg1, main_arg2, main_arg3, main_arg4, main_arg5, main_arg6, main_arg7, main_arg8, main_arg9],
    after2 V (Proc.devRef .tc a) = V (Proc.devRef .tc a) := fun a ha =>
  (keep_of (fn_conv_bn_relu_0.body (F := Ideal) (.of main_v1) (.of main_arg2) (.of main_arg5) (.of main_arg8) main_call1) (after1 V)
    [main_arg0, main_arg1, main_arg2, main_arg3, main_arg4, main_arg5, main_arg6, main_arg7, main_arg8, main_arg9] (Eq.refl true) a ha).trans
    (keep1 V a ha)

theorem keep3 (V : Valuation τ sig (Elt Ideal)) : ∀ a ∈ [main_arg0, main_arg1, main_arg2, main_arg3, main_arg4, main_arg5, main_arg6, main_arg7, main_arg8, main_arg9],
    after3 V (Proc.devRef .tc a) = V (Proc.devRef .tc a) := fun a ha =>
  (keep_of (fn_conv_bn_relu_1.body (F := Ideal) (.of main_v2) (.of main_arg3) (.of main_arg6) (.of main_arg9) main_call2) (after2 V)
    [main_arg0, main_arg1, main_arg2, main_arg3, main_arg4, main_arg5, main_arg6, main_arg7, main_arg8, main_arg9] (Eq.refl true) a ha).trans
    (keep2 V a ha)

/-- Every argument, as launched. -/
theorem run_args (d : Dev nD) (V : Valuation τ sig (Elt Ideal)) : ∀ a ∈ [main_arg0, main_arg1, main_arg2, main_arg3, main_arg4, main_arg5, main_arg6, main_arg7, main_arg8, main_arg9],
    run (main (F := Ideal) d) V (Proc.devRef .tc a) = V (Proc.devRef .tc a) := fun a ha => by
  rw [run_main]
  exact keep3 V a ha

theorem in_at (V : Valuation τ sig (Elt Ideal)) (n : Fin 32) (c : Fin 1) (y : Fin 1024) (j : Fin 80) :
    after0 V (Proc.devRef .tc main_v0) (ix4 n c y j) = V (Proc.devRef .tc main_arg0) (ix3 n y j) := by
  simp only [after0, run, opInHost, HostProg.ops, instHlo]
  after_reads_at

/-- The result: three layers of the input. -/
theorem result_at (d : Dev nD) (V : Valuation τ sig (Elt Ideal)) (x w0 w1 w2 : Act) (g0 g1 g2 b0 b1 b2 : ℕ → EReal)
    (hx : Within 1024 80 x)
    (h : ∀ (n : Fin 32) (c : Fin 1) (y : Fin 1024) (j : Fin 80), (V (Proc.devRef .tc main_arg0) (ix3 n y j) : EReal) = x n c y j)
    (hw0 : ∀ (d : Fin 32) (c : Fin 1) (p q : Fin 3), (V (Proc.devRef .tc main_arg1) (ix4 d c p q) : EReal) = w0 d c p q)
    (hw1 : ∀ (d : Fin 32) (c : Fin 32) (p q : Fin 3), (V (Proc.devRef .tc main_arg2) (ix4 d c p q) : EReal) = w1 d c p q)
    (hw2 : ∀ (d : Fin 64) (c : Fin 32) (p q : Fin 3), (V (Proc.devRef .tc main_arg3) (ix4 d c p q) : EReal) = w2 d c p q)
    (hg0 : ∀ d : Fin 32, (V (Proc.devRef .tc main_arg4) (ix1 d) : EReal) = g0 d)
    (hg1 : ∀ d : Fin 32, (V (Proc.devRef .tc main_arg5) (ix1 d) : EReal) = g1 d)
    (hg2 : ∀ d : Fin 64, (V (Proc.devRef .tc main_arg6) (ix1 d) : EReal) = g2 d)
    (hb0 : ∀ d : Fin 32, (V (Proc.devRef .tc main_arg7) (ix1 d) : EReal) = b0 d)
    (hb1 : ∀ d : Fin 32, (V (Proc.devRef .tc main_arg8) (ix1 d) : EReal) = b1 d)
    (hb2 : ∀ d : Fin 64, (V (Proc.devRef .tc main_arg9) (ix1 d) : EReal) = b2 d)
    (n : Fin 32) (k : Fin 64) (y : Fin 128) (j : Fin 10) :
    (run (main (F := Ideal) d) V (Proc.devRef .tc main_v3) (ix4 n k y j) : EReal)
      = conv 32 128 10 (conv 32 256 20 (conv 1 512 40 x w0 g0 b0) w1 g1 b1) w2 g2 b2 n k y j := by
  rw [run_main]
  have l0 := layer0 (after0 V) x w0 g0 b0 hx (fun n c y j => (in_at V n c y j).trans (h n c y j))
    (fun d c p q => (congrFun (keep0 V main_arg1 (by simp)) _).trans (hw0 d c p q))
    (fun d => (congrFun (keep0 V main_arg4 (by simp)) _).trans (hg0 d))
    (fun d => (congrFun (keep0 V main_arg7 (by simp)) _).trans (hb0 d))
  have l1 := layer1 (after1 V) _ w1 g1 b1 (within_conv _ _ _ _ _ _ _) l0
    (fun d c p q => (congrFun (keep1 V main_arg2 (by simp)) _).trans (hw1 d c p q))
    (fun d => (congrFun (keep1 V main_arg5 (by simp)) _).trans (hg1 d))
    (fun d => (congrFun (keep1 V main_arg8 (by simp)) _).trans (hb1 d))
  exact layer2 (after2 V) _ w2 g2 b2 (within_conv _ _ _ _ _ _ _) l1
    (fun d c p q => (congrFun (keep2 V main_arg3 (by simp)) _).trans (hw2 d c p q))
    (fun d => (congrFun (keep2 V main_arg6 (by simp)) _).trans (hg2 d))
    (fun d => (congrFun (keep2 V main_arg9 (by simp)) _).trans (hb2 d)) n k y j

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import proofs.«01_k».proof.Proof.RefMain
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Enc

/-- The reference's run: the result's buffer, and the arguments as launched. -/
theorem ref_run [Cert.ReferenceIdeal.Facts] (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v3)
        = Cert.HostRun.run (Cert.ReferenceIdeal.main (F := Ideal) c) (StableHlo.launchContents m c) (Proc.devRef .tc Cert.ReferenceIdeal.main_v3)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) := by
  refine (θ_run _ _ _).mono (fun r h c => ?_) (Cert.ReferenceIdeal.Val.run_ops m ρ)
  have ha := fun a ha => (h c a).trans (Cert.ReferenceIdeal.Val.run_args c (StableHlo.launchContents m c) a ha)
  exact ⟨h c _, ha _ (by simp), ha _ (by simp), ha _ (by simp), ha _ (by simp), ha _ (by simp), ha _ (by simp), ha _ (by simp), ha _ (by simp), ha _ (by simp), ha _ (by simp)⟩

theorem frame_ref : Cert.quiescent_ReferenceIdeal (hReferenceIdeal := Cert.ReferenceIdeal.Gen.facts) := fun m ρ _ =>
  letI := Cert.ReferenceIdeal.Gen.facts
  (θ_run _ _ _).mono (fun r h => ⟨fun c => (h c).2, sem_eq_zero_of_no_sems (by decide) r.2⟩) (ref_run m ρ)

theorem algebraic : Cert.algebraic_KernelIdeal_ReferenceIdeal (hKernelIdeal := Cert.KernelIdeal.Gen.facts) (hReferenceIdeal := Cert.ReferenceIdeal.Gen.facts) := by
  intro m g m' g' _ hagree
  letI := Cert.ReferenceIdeal.Gen.facts
  refine ⟨fun c => Cert.KernelIdeal.Gen.W21 m g c (Proc.devRef .tc Cert.KernelIdeal.main_v219), Cert.KernelIdeal.Val.run m g, ?_⟩
  refine (θ_run _ _ _).mono (fun r h c => ⟨(h c).1.trans ?_, (h c).2⟩) (ref_run m' g')
  obtain ⟨e0, e1, e2, e3, e4, e5, e6, e7, e8, e9⟩ := hagree c
  funext i
  rw [eq_ix4 i]
  refine (Cert.ReferenceIdeal.Val.result_at c (StableHlo.launchContents m' c) (Cert.KernelIdeal.Val.inp m c) (Cert.KernelIdeal.Val.w0 m c)
    (Cert.KernelIdeal.Val.w1 m c) (Cert.KernelIdeal.Val.w2 m c) (Cert.KernelIdeal.Val.g0 m c) (Cert.KernelIdeal.Val.g1 m c)
    (Cert.KernelIdeal.Val.g2 m c) (Cert.KernelIdeal.Val.b0 m c) (Cert.KernelIdeal.Val.b1 m c) (Cert.KernelIdeal.Val.b2 m c)
    (Cert.KernelIdeal.Val.within_act3 _)
    (fun n k y j => (congrFun e0 _).trans (Cert.KernelIdeal.Val.inp_at m g c n k y j))
    (fun d k p q => (congrFun e1 _).trans (Cert.KernelIdeal.Val.act4_at _ d k p q))
    (fun d k p q => (congrFun e2 _).trans (Cert.KernelIdeal.Val.act4_at _ d k p q))
    (fun d k p q => (congrFun e3 _).trans (Cert.KernelIdeal.Val.act4_at _ d k p q))
    (fun d => (congrFun e4 _).trans (Cert.KernelIdeal.Val.vec1_at _ d))
    (fun d => (congrFun e5 _).trans (Cert.KernelIdeal.Val.vec1_at _ d))
    (fun d => (congrFun e6 _).trans (Cert.KernelIdeal.Val.vec1_at _ d))
    (fun d => (congrFun e7 _).trans (Cert.KernelIdeal.Val.vec1_at _ d))
    (fun d => (congrFun e8 _).trans (Cert.KernelIdeal.Val.vec1_at _ d))
    (fun d => (congrFun e9 _).trans (Cert.KernelIdeal.Val.vec1_at _ d)) (i 0) (i 1) (i 2) (i 3)).trans ?_
  exact (Cert.KernelIdeal.Val.result_at m g c (i 0) (i 1) (i 2) (i 3)).symm

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, frame_ref, IdealRules.named_const.statement Cert.KernelIdeal.κ "bn" .f32 0x3F80002A#32 _ rfl,
    algebraic⟩

end Cert.Proof

end
